-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x4608 : Shape := ⟨3, ![6, 2048, 4608]⟩
abbrev S4608x18432 : Shape := ⟨2, ![4608, 18432]⟩
abbrev S18432 : Shape := ⟨1, ![18432]⟩
abbrev S12288x4608 : Shape := ⟨2, ![12288, 4608]⟩
abbrev S12288x1 : Shape := ⟨2, ![12288, 1]⟩
abbrev S256x4608 : Shape := ⟨2, ![256, 4608]⟩
abbrev S256x1 : Shape := ⟨2, ![256, 1]⟩
abbrev S256 : Shape := ⟨1, ![256]⟩
abbrev S1x18432 : Shape := ⟨2, ![1, 18432]⟩
abbrev S12288x9216 : Shape := ⟨2, ![12288, 9216]⟩
abbrev S12288x72 : Shape := ⟨2, ![12288, 72]⟩
abbrev S1024x4608 : Shape := ⟨2, ![1024, 4608]⟩
abbrev S1024x1 : Shape := ⟨2, ![1024, 1]⟩
abbrev S4608x512 : Shape := ⟨2, ![4608, 512]⟩
abbrev S1x512 : Shape := ⟨2, ![1, 512]⟩
abbrev S1024x512 : Shape := ⟨2, ![1024, 512]⟩
abbrev S1024x72 : Shape := ⟨2, ![1024, 72]⟩
abbrev S1024x128 : Shape := ⟨2, ![1024, 128]⟩
abbrev S1024 : Shape := ⟨1, ![1024]⟩

abbrev nBuf : Space → Nat
  | .hbm => 9
  | .vmem => 22
  | .smem => 0
  | _ => 0

abbrev bufTy : (tb : Table) → Fin (tcTables nBuf tb) → BufTy
  | .hbm, ⟨0, _⟩ => ⟨S6x2048x4608, .bf16⟩
  | .hbm, ⟨1, _⟩ => ⟨S4608x18432, .fp8e4m3⟩
  | .hbm, ⟨2, _⟩ => ⟨S18432, .f32⟩
  | .hbm, ⟨3, _⟩ => ⟨S12288x4608, .bf16⟩
  | .hbm, ⟨4, _⟩ => ⟨S12288x4608, .fp8e4m3⟩
  | .hbm, ⟨5, _⟩ => ⟨S12288x1, .f32⟩
  | .hbm, ⟨6, _⟩ => ⟨S1x18432, .f32⟩
  | .hbm, ⟨7, _⟩ => ⟨S12288x9216, .fp8e4m3⟩
  | .hbm, ⟨8, _⟩ => ⟨S12288x72, .f32⟩
  | .local _ .vmem, ⟨0, _⟩ => ⟨S256x4608, .bf16⟩
  | .local _ .vmem, ⟨1, _⟩ => ⟨S256x4608, .bf16⟩
  | .local _ .vmem, ⟨2, _⟩ => ⟨S256x4608, .fp8e4m3⟩
  | .local _ .vmem, ⟨3, _⟩ => ⟨S256x4608, .fp8e4m3⟩
  | .local _ .vmem, ⟨4, _⟩ => ⟨S256x1, .f32⟩
  | .local _ .vmem, ⟨5, _⟩ => ⟨S256x1, .f32⟩
  | .local _ .vmem, ⟨6, _⟩ => ⟨S1024x4608, .fp8e4m3⟩
  | .local _ .vmem, ⟨7, _⟩ => ⟨S1024x4608, .fp8e4m3⟩
  | .local _ .vmem, ⟨8, _⟩ => ⟨S1024x1, .f32⟩
  | .local _ .vmem, ⟨9, _⟩ => ⟨S1024x1, .f32⟩
  | .local _ .vmem, ⟨10, _⟩ => ⟨S4608x512, .fp8e4m3⟩
  | .local _ .vmem, ⟨11, _⟩ => ⟨S4608x512, .fp8e4m3⟩
  | .local _ .vmem, ⟨12, _⟩ => ⟨S4608x512, .fp8e4m3⟩
  | .local _ .vmem, ⟨13, _⟩ => ⟨S4608x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .fp8e4m3⟩
  | .local _ .vmem, ⟨19, _⟩ => ⟨S1024x512, .fp8e4m3⟩
  | .local _ .vmem, ⟨20, _⟩ => ⟨S1024x72, .f32⟩
  | .local _ .vmem, ⟨21, _⟩ => ⟨S1024x72, .f32⟩
  | _, _ => ⟨S6x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 18], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi arg1 c18_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi arg1 c18_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4608 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4608x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4608x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x72 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S6x2048x4608 : Shape := ⟨3, ![6, 2048, 4608]⟩
abbrev S4608x18432 : Shape := ⟨2, ![4608, 18432]⟩
abbrev S18432 : Shape := ⟨1, ![18432]⟩
abbrev S12288x4608 : Shape := ⟨2, ![12288, 4608]⟩
abbrev S1x18432 : Shape := ⟨2, ![1, 18432]⟩
abbrev S12288x9216 : Shape := ⟨2, ![12288, 9216]⟩
abbrev S12288x72 : Shape := ⟨2, ![12288, 72]⟩
abbrev S12288x1 : Shape := ⟨2, ![12288, 1]⟩
abbrev S12288 : Shape := ⟨1, ![12288]⟩
abbrev S12288x18432 : Shape := ⟨2, ![12288, 18432]⟩
abbrev S12288x72x128 : Shape := ⟨3, ![12288, 72, 128]⟩
abbrev S12288x72x1 : Shape := ⟨3, ![12288, 72, 1]⟩

abbrev nBuf : Space → Nat
  | .hbm => 9
  | .vmem => 7
  | .smem => 0
  | _ => 0

abbrev bufTy : (tb : Table) → Fin (tcTables nBuf tb) → BufTy
  | .hbm, ⟨0, _⟩ => ⟨S6x2048x4608, .bf16⟩
  | .hbm, ⟨1, _⟩ => ⟨S4608x18432, .fp8e4m3⟩
  | .hbm, ⟨2, _⟩ => ⟨S18432, .f32⟩
  | .hbm, ⟨3, _⟩ => ⟨S12288x4608, .bf16⟩
  | .hbm, ⟨4, _⟩ => ⟨S1x18432, .f32⟩
  | .hbm, ⟨5, _⟩ => ⟨S12288x9216, .fp8e4m3⟩
  | .hbm, ⟨6, _⟩ => ⟨S12288x72, .f32⟩
  | .hbm, ⟨7, _⟩ => ⟨S12288x4608, .fp8e4m3⟩
  | .hbm, ⟨8, _⟩ => ⟨S12288x1, .f32⟩
  | .local _ .vmem, ⟨0, _⟩ => ⟨S12288x4608, .bf16⟩
  | .local _ .vmem, ⟨1, _⟩ => ⟨S4608x18432, .fp8e4m3⟩
  | .local _ .vmem, ⟨2, _⟩ => ⟨S1x18432, .f32⟩
  | .local _ .vmem, ⟨3, _⟩ => ⟨S12288x9216, .fp8e4m3⟩
  | .local _ .vmem, ⟨4, _⟩ => ⟨S12288x72, .f32⟩
  | .local _ .vmem, ⟨5, _⟩ => ⟨S12288x4608, .fp8e4m3⟩
  | .local _ .vmem, ⟨6, _⟩ => ⟨S12288x1, .f32⟩
  | _, _ => ⟨S6x2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x9216 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
/-
  The power-of-two quantiser of the kernel as functions of vectors, at any float instance and any shape: the eight-step search of a
  value's exponent field, the word of the scale, the scale, its inverse, the clipped codes, and the overlay of one column. The kernel writes
  these out once for each place it quantises; the run modules show that each place is one of these functions.
-/
module

public import Idealize.ShloMosaic.PureOps

@[expose] public section

noncomputable section

namespace Cert.Quant

open Idealize.ShloMosaic

variable {F : FTy → Type} [FloatOps F]

section
variable {S : Shape}

/-- One step of the search: the field `f` with the bit `b` added, kept if the float with that word is at most `t`. -/
def step (t : FVec F S .f32) (b : BitVec 32) (f : IVec S 32) : IVec S 32 :=
  select (cmpf .ole (bitcastToFloat .f32 (addi f (broadcast S b)) : FVec F S .f32) t) (addi f (broadcast S b)) f

/-- The search from zero, from the top bit of the exponent field down. -/
def field (t : FVec F S .f32) : IVec S 32 :=
  step t 8388608#32 (step t 16777216#32 (step t 33554432#32 (step t 67108864#32 (step t 134217728#32 (step t 268435456#32
    (step t 536870912#32 (step t 1073741824#32 (broadcast S 0#32))))))))

/-- The scale's word from the field: one exponent up, and the word of 1 where the field is zero or the value is too large. -/
def finish (t : FVec F S .f32) (f : IVec S 32) : IVec S 32 :=
  select (cmpi .sgt (addi (select (cmpf .oge t (broadcast S (Scalar.ofBits .f32 0x7E800000#32))) (broadcast S 2139095040#32) f)
      (broadcast S 8388608#32)) (broadcast S 8388608#32))
    (addi (select (cmpf .oge t (broadcast S (Scalar.ofBits .f32 0x7E800000#32))) (broadcast S 2139095040#32) f) (broadcast S 8388608#32))
    (broadcast S 1065353216#32)

/-- The word of the scale of `t`. -/
def word (t : FVec F S .f32) : IVec S 32 := finish t (field t)

/-- The scale of `t`. -/
def scale (t : FVec F S .f32) : FVec F S .f32 := bitcastToFloat .f32 (word t)

/-- The inverse of the scale of `t`. -/
def inv (t : FVec F S .f32) : FVec F S .f32 := bitcastToFloat .f32 (subi (broadcast S 2130706432#32) (word t))

/-- The codes: clipped to the format's range, then rounded to it. -/
def clip (y : FVec F S .f32) : FVec F S .fp8e4m3 :=
  truncf .fp8e4m3 (minimumf (broadcast S (Scalar.ofBits .f32 0x43E00000#32)) (maximumf (broadcast S (Scalar.ofBits .f32 0xC3E00000#32)) y))
    (by decide)

end

end Cert.Quant

end
-- ==== Proof.KernelStores.lean ====
/-
  What the kernel stores, in the quantiser's functions: each stored value of the two kernel bodies as `Quant.scale`, `Quant.clip` and their
  like of the block that the body read, at any float instance.
-/
module

public import proofs.«01_k».proof.Proof.Gen.Kernel.Skeleton
public import proofs.«01_k».proof.Proof.Quant

@[expose] public section

noncomputable section

namespace Cert.Kernel.Hand

open Idealize.ShloMosaic Cert.Kernel.Gen

variable {F : FTy → Type} [FloatOps F]

/-! ## The payloads of the kernel's stores, by the quantiser's functions -/

/-- The largest magnitude of each row over 448. -/
def amax0 (y : FVec F S256x4608 .f32) : FVec F S256x1 .f32 :=
  mulf (shapeCast S256x1 (multiReduction .maximumf [1] S256 (absf y) 0xFF800000#32 reduces_S256x4608_S256 (.inl rfl) rfl) shapeCasts_S256_S256x1)
    (broadcast S256x1 (Scalar.ofBits .f32 0x3B124925#32))
/-- The codes of a block of rows of `x`. -/
def codes0 (y : FVec F S256x4608 .f32) : FVec F S256x4608 .fp8e4m3 :=
  Quant.clip (mulf y (broadcastTo S256x4608 (Quant.inv (amax0 y)) broadcasts_S256x1_S256x4608))

theorem pay0_t (v : Vec F S256x4608 .bf16) : k0_pay5 v = amax0 (k0_pay4 v) := rfl
theorem pay0_word (v : Vec F S256x4608 .bf16) : k0_pay1 (k0_pay5 v) (k0_pay6 v) (k0_pay7 v) = Quant.word (amax0 (k0_pay4 v)) := by
  unfold k0_pay1 k0_pay7 k0_pay6 Quant.word Quant.finish Quant.field Quant.step
  rw [pay0_t]
theorem pay0_scale (v : Vec F S256x4608 .bf16) :
    k0_pay2 (k0_pay5 v) (k0_pay6 v) (k0_pay7 v) = Quant.scale (amax0 (k0_pay4 v)) := by
  unfold k0_pay2 Quant.scale; rw [pay0_word]
theorem pay0_codes (v : Vec F S256x4608 .bf16) :
    k0_pay3 (k0_pay4 v) (k0_pay5 v) (k0_pay6 v) (k0_pay7 v) = codes0 (k0_pay4 v) := by
  unfold k0_pay3 codes0 Quant.clip Quant.inv; rw [pay0_word]

/-- The largest magnitude of each row of a group of 128 columns, over 448. -/
def amax1 (y : FVec F S1024x128 .f32) : FVec F S1024x1 .f32 :=
  mulf (shapeCast S1024x1 (multiReduction .maximumf [1] S1024 (absf y) 0xFF800000#32 reduces_S1024x128_S1024 (.inl rfl) rfl) shapeCasts_S1024_S1024x1)
    (broadcast S1024x1 (Scalar.ofBits .f32 0x3B124925#32))
/-- The scales of a group. -/
def scale1 (y : FVec F S1024x128 .f32) : FVec F S1024x1 .f32 := Quant.scale (amax1 y)
/-- The codes of a group. -/
def codes1 (y : FVec F S1024x128 .f32) : FVec F S1024x128 .fp8e4m3 :=
  Quant.clip (mulf y (broadcastTo S1024x128 (Quant.inv (amax1 y)) broadcasts_S1024x1_S1024x128))
/-- The scale block with the column `4 * j + g` replaced. -/
def over (a : BitVec 32) (g : BitVec 32) (s : FVec F S1024x1 .f32) (old : FVec F S1024x72 .f32) : FVec F S1024x72 .f32 :=
  select (cmpi .eq (iota .tc S1024x72 32 [1] iota_S1024x72_d1_w32) (broadcast S1024x72 (Scalar.addi (Scalar.muli a 4#32) g)))
    (broadcastTo S1024x72 (shapeCast S1024x1 s shapeCasts_S1024x1_S1024x1) broadcasts_S1024x1_S1024x72) old

/-- The four groups of 128 columns of a block. -/
def grp0 (h : FVec F S1024x512 .f32) : FVec F S1024x128 .f32 := extractStridedSlice S1024x128 ![0, 0] h slices_S1024x512_o0_0_S1024x128
def grp1 (h : FVec F S1024x512 .f32) : FVec F S1024x128 .f32 := extractStridedSlice S1024x128 ![0, 128] h slices_S1024x512_o0_128_S1024x128
def grp2 (h : FVec F S1024x512 .f32) : FVec F S1024x128 .f32 := extractStridedSlice S1024x128 ![0, 256] h slices_S1024x512_o0_256_S1024x128
def grp3 (h : FVec F S1024x512 .f32) : FVec F S1024x128 .f32 := extractStridedSlice S1024x128 ![0, 384] h slices_S1024x512_o0_384_S1024x128

theorem pay1_word0 (y : FVec F S1024x128 .f32) : k1_pay10 (k1_pay8 y) (k1_pay9 y) = Quant.word (amax1 y) := rfl
theorem pay1_word1 (h : FVec F S1024x512 .f32) :
    k1_pay18 (k1_pay14 h) (k1_pay15 h) (k1_pay16 h) (k1_pay17 h) = Quant.word (amax1 (grp1 h)) := rfl
theorem pay1_word2 (h : FVec F S1024x512 .f32) : k1_pay26 (k1_pay24 h) (k1_pay25 h) 33554432#32 = Quant.word (amax1 (grp2 h)) := rfl
theorem pay1_word3 (y : FVec F S1024x128 .f32) : k1_pay1 (k1_pay31 y) (k1_pay32 y) = Quant.word (amax1 y) := rfl

theorem pay1_codes0 (y : FVec F S1024x128 .f32) : k1_pay11 y (k1_pay8 y) (k1_pay9 y) = codes1 y := by
  unfold k1_pay11 codes1 Quant.clip Quant.inv; rw [pay1_word0]
theorem pay1_codes1 (h : FVec F S1024x512 .f32) :
    k1_pay21 (k1_pay20 (k1_pay13 h) (k1_pay14 h) (k1_pay15 h) (k1_pay16 h) (k1_pay17 h)) (Scalar.ofBits .f32 0xC3E00000#32) = codes1 (grp1 h) := by
  unfold k1_pay21 k1_pay20 codes1 Quant.clip Quant.inv; rw [pay1_word1]; rfl
theorem pay1_codes2 (h : FVec F S1024x512 .f32) :
    k1_pay27 (k1_pay23 h) (k1_pay24 h) (k1_pay25 h) 33554432#32 = codes1 (grp2 h) := by
  unfold k1_pay27 codes1 Quant.clip Quant.inv; rw [pay1_word2]; rfl
theorem pay1_codes3 (y : FVec F S1024x128 .f32) : k1_pay2 y (k1_pay31 y) (k1_pay32 y) = codes1 y := by
  unfold k1_pay2 codes1 Quant.clip Quant.inv; rw [pay1_word3]

theorem pay1_over0 (a : BitVec 32) (old : FVec F S1024x72 .f32) (y : FVec F S1024x128 .f32) :
    k1_pay12 a (iota .tc S1024x72 32 [1] iota_S1024x72_d1_w32) old (k1_pay8 y) (k1_pay9 y) = over a 0#32 (scale1 y) old := by
  unfold k1_pay12 over scale1 Quant.scale; rw [pay1_word0]
theorem pay1_over1 (a : BitVec 32) (old : FVec F S1024x72 .f32) (h : FVec F S1024x512 .f32) :
    k1_pay22 a (iota .tc S1024x72 32 [1] iota_S1024x72_d1_w32) old (k1_pay19 (k1_pay14 h) (k1_pay15 h) (k1_pay16 h) (k1_pay17 h))
      = over a 1#32 (scale1 (grp1 h)) old := by
  unfold k1_pay22 k1_pay19 over scale1 Quant.scale; rw [pay1_word1]
theorem pay1_over2 (a : BitVec 32) (old : FVec F S1024x72 .f32) (h : FVec F S1024x512 .f32) :
    k1_pay28 a (iota .tc S1024x72 32 [1] iota_S1024x72_d1_w32) old (k1_pay24 h) (k1_pay25 h) 33554432#32
      = over a 2#32 (scale1 (grp2 h)) old := by
  unfold k1_pay28 over scale1 Quant.scale; rw [pay1_word2]
theorem pay1_over3 (a : BitVec 32) (old : FVec F S1024x72 .f32) (y : FVec F S1024x128 .f32) :
    k1_pay3 a (iota .tc S1024x72 32 [1] iota_S1024x72_d1_w32) old (k1_pay31 y) (k1_pay32 y) = over a 3#32 (scale1 y) old := by
  unfold k1_pay3 over scale1 Quant.scale; rw [pay1_word3]

end Cert.Kernel.Hand

end
-- ==== Proof.KernelBody0.lean ====
/-
  The first call (quantising x): its body run on whole staging buffers, and the pipeline's proof data and body obligation, at any float instance.
-/
module

public import proofs.«01_k».proof.Proof.Gen.Kernel.Launch
public import proofs.«01_k».proof.Proof.Gen.Kernel.Skeleton
public import proofs.«01_k».proof.Proof.Gen.Kernel.Points
public import proofs.«01_k».proof.Proof.KernelStores
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4608 := Rect.unit (s := S256x4608) ![0, 0] S256x4608.size inb_S256x4608_S256x4608_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds, stated over the input windows' blocks. -/

def k0_pay8 (x0 : Vec F S256x4608 .bf16) : FVec F S256x1 .f32 :=
  k0_pay5 (View.ld x0 r0_0) -- `v7`
def k0_pay9 (x0 : Vec F S256x4608 .bf16) : IVec S256x1 32 :=
  k0_pay6 (View.ld x0 r0_0) -- `v43`
def k0_pay10 (x0 : Vec F S256x4608 .bf16) : IVec S256x1 32 :=
  k0_pay7 (View.ld x0 r0_0) -- `v45`

/-- Window 1's staging buffer after the body, from the input windows' blocks: its 1 store as pieces, LAST
    FIRST. -/
def out0_1 (x0 : Vec F S256x4608 .bf16) : Vec F S256x4608 .fp8e4m3 :=
  View.canon [⟨r0_0, k0_pay3 (k0_pay4 (View.ld x0 r0_0)) (k0_pay8 x0) (k0_pay9 x0) (k0_pay10 x0)⟩]

/-- Its stores tile the buffer (checked by evaluation), so they cover it. -/
theorem cover0_1 (p0 : Vec F S256x4608 .fp8e4m3) (y : S256x4608.Idx) :
    ∃ pc ∈ ([⟨r0_0, p0⟩] : List (View.Piece (Elt F) S256x4608 .fp8e4m3)), y ∈ pc.1.set :=
  View.cover_of_tiled [⟨r0_0, p0⟩] S256x4608.size (by rfl) y

/-- Window 2's staging buffer after the body, from the input windows' blocks: its 1 store as pieces, LAST
    FIRST. -/
def out0_2 (x0 : Vec F S256x4608 .bf16) : Vec F S256x1 .f32 :=
  View.canon [⟨r0_1, k0_pay2 (k0_pay8 x0) (k0_pay9 x0) (k0_pay10 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x1 .f32) (harg3 : arg3.IsWhole)
    (x0 : Vec F S256x4608 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Hand

end
-- ==== Proof.KernelBody1.lean ====
/-
  The second call (the two products, the gated activation and its quantising): its body run on whole staging buffers, at any float instance.
-/
module

public import proofs.«01_k».proof.Proof.Gen.Kernel.Launch
public import proofs.«01_k».proof.Proof.Gen.Kernel.Skeleton
public import proofs.«01_k».proof.Proof.Gen.Kernel.Points
public import proofs.«01_k».proof.Proof.KernelStores
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves in each output window's buffer -/

abbrev r1_0 : Rect S1024x4608 := Rect.unit (s := S1024x4608) ![0, 0] S1024x4608.size inb_S1024x4608_S1024x4608_0_0
abbrev r1_1 : Rect S1024x1 := Rect.unit (s := S1024x1) ![0, 0] S1024x1.size inb_S1024x1_S1024x1_0_0
abbrev r1_2 : Rect S4608x512 := Rect.unit (s := S4608x512) ![0, 0] S4608x512.size inb_S4608x512_S4608x512_0_0
abbrev r1_3 : Rect S1x512 := Rect.unit (s := S1x512) ![0, 0] S1x512.size inb_S1x512_S1x512_0_0
abbrev r1_4 : Rect S1024x512 := Rect.unit (s := S1024x512) ![0, 0] S1024x128.size inb_S1024x512_S1024x128_0_0
abbrev r1_5 : Rect S1024x512 := Rect.unit (s := S1024x512) ![0, 128] S1024x128.size inb_S1024x512_S1024x128_0_128
abbrev r1_6 : Rect S1024x512 := Rect.unit (s := S1024x512) ![0, 256] S1024x128.size inb_S1024x512_S1024x128_0_256
abbrev r1_7 : Rect S1024x512 := Rect.unit (s := S1024x512) ![0, 384] S1024x128.size inb_S1024x512_S1024x128_0_384
abbrev r1_8 : Rect S1024x72 := Rect.unit (s := S1024x72) ![0, 0] S1024x72.size inb_S1024x72_S1024x72_0_0

/-- The block of activations a point computes, from the six input blocks it reads. -/
def hval (x0 : Vec F S1024x4608 .fp8e4m3) (x1 : Vec F S1024x1 .f32) (x2 x3 : Vec F S4608x512 .fp8e4m3) (x4 x5 : Vec F S1x512 .f32) : FVec F S1024x512 .f32 :=
  k1_pay4 (View.ld x0 r1_0) (View.ld x1 r1_1) (View.ld x2 r1_2) (View.ld x3 r1_2) (View.ld x4 r1_3) (View.ld x5 r1_3)

/-- The codes' buffer after the body, from the block of activations: four groups of 128 columns, the last store first. -/
def out1_6 (h : FVec F S1024x512 .f32) : Vec F S1024x512 .fp8e4m3 :=
  View.canon [⟨r1_7, codes1 (grp3 h)⟩, ⟨r1_6, codes1 (grp2 h)⟩, ⟨r1_5, codes1 (grp1 h)⟩, ⟨r1_4, codes1 (grp0 h)⟩]

theorem cover1_6 (p3 p2 p1 p0 : Vec F S1024x128 .fp8e4m3) (y : S1024x512.Idx) :
    ∃ pc ∈ ([⟨r1_7, p3⟩, ⟨r1_6, p2⟩, ⟨r1_5, p1⟩, ⟨r1_4, p0⟩] : List (View.Piece (Elt F) S1024x512 .fp8e4m3)), y ∈ pc.1.set :=
  View.cover_of_tiled [⟨r1_7, p3⟩, ⟨r1_6, p2⟩, ⟨r1_5, p1⟩, ⟨r1_4, p0⟩] S1024x128.size (by rfl) y

/-- The scale buffer after the body at grid column `a`: the buffer it found, four columns replaced. -/
def ovr (a : BitVec 32) (h : FVec F S1024x512 .f32) (x7 : FVec F S1024x72 .f32) : FVec F S1024x72 .f32 :=
  over a 3#32 (scale1 (grp3 h)) (over a 2#32 (scale1 (grp2 h)) (over a 1#32 (scale1 (grp1 h)) (over a 0#32 (scale1 (grp0 h)) x7)))
def out1_7 (a : BitVec 32) (h : FVec F S1024x512 .f32) (x7 : Vec F S1024x72 .f32) : Vec F S1024x72 .f32 :=
  View.canon [⟨r1_8, ovr a h (k1_pay5 (View.ld x7 r1_8))⟩]

theorem cover1_7 (p0 : Vec F S1024x72 .f32) (y : S1024x72.Idx) :
    ∃ pc ∈ ([⟨r1_8, p0⟩] : List (View.Piece (Elt F) S1024x72 .f32)), y ∈ pc.1.set :=
  View.cover_of_tiled [⟨r1_8, p0⟩] S1024x72.size (by rfl) y

theorem pay6_eq (v0 : Vec F S1024x4608 .fp8e4m3) (v2 : Vec F S1024x1 .f32) (v4 v6 : Vec F S4608x512 .fp8e4m3) (v10 v16 : Vec F S1x512 .f32) :
    k1_pay6 v0 v2 v4 v6 v10 v16 = grp0 (k1_pay4 v0 v2 v4 v6 v10 v16) := rfl
theorem pay29_eq (h : FVec F S1024x512 .f32) : k1_pay29 h = grp3 h := rfl

/-! ## The body's triple -/

set_option maxHeartbeats 4000000 in
/-- The matmul body on whole staging memrefs, the inputs' and the scale buffer's at known contents and the codes' at anything, runs to the
    continuation holding the inputs' as they were, the codes' at `out1_6` and the scales' at `out1_7`. -/
theorem sound_kernel1 (c : Dev nD) (E : Set ℕ) (i : grid1.Coords) (arg2 : Memref sig .tc .vmem S1024x4608 .fp8e4m3) (harg2 : arg2.IsWhole) (arg3 : Memref sig .tc .vmem S1024x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .fp8e4m3) (harg8 : arg8.IsWhole) (arg9 : Memref sig .tc .vmem S1024x72 .f32) (harg9 : arg9.IsWhole)
    (x0 : Vec F S1024x4608 .fp8e4m3) (x1 : Vec F S1024x1 .f32) (x2 x3 : Vec F S4608x512 .fp8e4m3) (x4 x5 : Vec F S1x512 .f32) (x7 : Vec F S1024x72 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare (out1_6 (hval x0 x1 x2 x3 x4 x5))
            ∗ owns (c : Thread nD τ) arg9 fullShare (out1_7 (BitVec.ofNat 32 (i 1).val) (hval x0 x1 x2 x3 x4 x5) x7)) -∗ K ⟨⟩))
      ⊢ wp frame (wpE (defs₀ (F := F)) Variants.none c none) E (cc1_geglu_matmul i arg2 harg2 arg3 harg3 arg4 harg4 arg5 harg5 arg6 harg6 arg7 harg7 arg8 harg8 arg9 harg9) K := by
  simp only [cc1_geglu_matmul_eq_skeleton]; unfold cc1_geglu_matmul_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _ _ _ _)).trans ?_
    unfold out1_6
    rw [← pay1_codes0, ← pay1_codes1, ← pay1_codes2, ← pay1_codes3]
    rfl
  iexists _; isplitr
  swap; · iexact H7
  ipureintro
  refine (View.read_writes_eq_canon _ _ _ (cover1_7 _)).trans ?_
  unfold out1_7 ovr
  rw [← pay1_over0, ← pay1_over1, ← pay1_over2, ← pay1_over3]
  rfl

end Cert.Kernel.Hand

end
-- ==== Proof.KernelData1.lean ====
/-
  The second call's proof data. The scale block is revisited at the 18 points of a block row, each of which replaces four of its 72 columns: before the
  first of them its contents are unknown, after point t the columns below 4 * (t % 18 + 1) hold their final values.
-/
module

public import proofs.«01_k».proof.Proof.Gen.Kernel.Launch
public import proofs.«01_k».proof.Proof.Gen.Kernel.Skeleton
public import proofs.«01_k».proof.Proof.Gen.Kernel.Points
public import proofs.«01_k».proof.Proof.KernelStores
public import proofs.«01_k».proof.Proof.KernelBody1
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_geglu_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S1024x4608 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4608x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4608x512 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x72 .f32 := win1_7.stage (cfg1.slots t 7)
abbrev hs1_7 (t : Fin cfg1.N) : (ms1_7 t).IsWhole := hstage1_7 ((cfg1.slots t 7).cast nbuf1_7)

/-! ## What the outputs hold -/

theorem N1 : cfg1.N = 216 := rfl
theorem coords1 : ∀ t : Fin cfg1.N, (grid1.coords t 1).val = t.val % 18 := by decide +kernel

/-- The block of activations of point `t`. -/
def hblk1 (c : Dev nD) (t : Fin cfg1.N) : FVec F S1024x512 .f32 :=
  hval (iblk1 V c 0 t) (iblk1 V c 1 t) (iblk1 V c 2 t) (iblk1 V c 3 t) (iblk1 V c 4 t) (iblk1 V c 5 t)

/-- Group `g` of a block's four. -/
def grp (g : ℕ) (h : FVec F S1024x512 .f32) : FVec F S1024x128 .f32 :=
  match g with
  | 0 => grp0 h
  | 1 => grp1 h
  | 2 => grp2 h
  | _ => grp3 h

/-- A column of scales as every column of a scale block. -/
def cols (s : FVec F S1024x1 .f32) : FVec F S1024x72 .f32 :=
  broadcastTo S1024x72 (shapeCast S1024x1 s shapeCasts_S1024x1_S1024x1) broadcasts_S1024x1_S1024x72

theorem lane_lt (idx : S1024x72.Idx) : (idx 1).val < 72 := (idx 1).isLt

/-- The point whose columns include the column `l` in the block row of `t`. -/
def ptOf (t : Fin cfg1.N) (l : ℕ) (hl : l < 72) : Fin cfg1.N :=
  ⟨18 * (t.val / 18) + l / 4, by have ht : t.val < 216 := t.isLt; have hN := N1; omega⟩

theorem ptOf_self (t : Fin cfg1.N) (l : ℕ) (hl : l < 72) (e : l / 4 = t.val % 18) : ptOf t l hl = t := by
  apply Fin.ext
  have : (ptOf t l hl).val = 18 * (t.val / 18) + l / 4 := rfl
  omega

/-- The whole scale block of `t`'s block row. -/
def full1_7 (c : Dev nD) (t : Fin cfg1.N) : Vec F S1024x72 .f32 := fun idx =>
  cols (scale1 (grp ((idx 1).val % 4) (hblk1 V c (ptOf t (idx 1).val (lane_lt idx))))) idx

theorem over_apply (a g : BitVec 32) (s : FVec F S1024x1 .f32) (old : FVec F S1024x72 .f32) (idx : S1024x72.Idx) :
    over a g s old idx = if BitVec.ofNat 32 (idx 1).val = a * 4#32 + g then cols s idx else old idx := by
  show Scalar.select (Scalar.cmpi .eq (iota .tc S1024x72 32 [1] iota_S1024x72_d1_w32 idx) _) _ _ = _
  have hi : iota .tc S1024x72 32 [1] iota_S1024x72_d1_w32 idx = BitVec.ofNat 32 (idx 1).val := by
    show BitVec.ofNat 32 (0 * 72 + (idx 1).val) = _
    rw [Nat.zero_mul, Nat.zero_add]
  rw [hi]
  show (if BitVec.ofBool (BitVec.ofNat 32 (idx 1).val == a * 4#32 + g) = 1 then _ else _) = _
  by_cases h : BitVec.ofNat 32 (idx 1).val = a * 4#32 + g
  · rw [if_pos h, if_pos (by rw [beq_iff_eq.mpr h]; rfl)]; rfl
  · rw [if_neg h, if_neg (by rw [beq_eq_false_iff_ne.mpr h]; decide)]

theorem lane_eq (l j g : ℕ) (hl : l < 72) (hj : j < 18) (hg : g < 4) : BitVec.ofNat 32 l = BitVec.ofNat 32 j * 4#32 + BitVec.ofNat 32 g ↔ l = 4 * j + g := by
  rw [show (4#32 : BitVec 32) = BitVec.ofNat 32 4 from rfl, ← BitVec.ofNat_mul, ← BitVec.ofNat_add]
  constructor
  · intro h
    have := congrArg BitVec.toNat h
    simp only [BitVec.toNat_ofNat] at this
    omega
  · rintro rfl; rw [Nat.mul_comm]

theorem ovr_apply (j : ℕ) (hj : j < 18) (h : FVec F S1024x512 .f32) (x7 : FVec F S1024x72 .f32) (idx : S1024x72.Idx) :
    ovr (BitVec.ofNat 32 j) h x7 idx = if (idx 1).val / 4 = j then cols (scale1 (grp ((idx 1).val % 4) h)) idx else x7 idx := by
  have hl := lane_lt idx
  unfold ovr
  rw [over_apply, over_apply, over_apply, over_apply]
  simp only [lane_eq _ j 0 hl hj (by omega), lane_eq _ j 1 hl hj (by omega), lane_eq _ j 2 hl hj (by omega), lane_eq _ j 3 hl hj (by omega)]
  by_cases e : (idx 1).val / 4 = j
  · rw [if_pos e]
    have h4 : (idx 1).val % 4 = 0 ∨ (idx 1).val % 4 = 1 ∨ (idx 1).val % 4 = 2 ∨ (idx 1).val % 4 = 3 := by omega
    rcases h4 with h4 | h4 | h4 | h4 <;> rw [h4]
    · rw [if_neg (by omega), if_neg (by omega), if_neg (by omega), if_pos (by omega)]; rfl
    · rw [if_neg (by omega), if_neg (by omega), if_pos (by omega)]; rfl
    · rw [if_neg (by omega), if_pos (by omega)]; rfl
    · rw [if_pos (by omega)]; rfl
  · rw [if_neg e, if_neg (by omega), if_neg (by omega), if_neg (by omega), if_neg (by omega)]

theorem out1_7_apply (j : ℕ) (hj : j < 18) (h : FVec F S1024x512 .f32) (x7 : Vec F S1024x72 .f32) (idx : S1024x72.Idx) :
    out1_7 (BitVec.ofNat 32 j) h x7 idx = if (idx 1).val / 4 = j then cols (scale1 (grp ((idx 1).val % 4) h)) idx else x7 idx := by
  have e : out1_7 (BitVec.ofNat 32 j) h x7 = ovr (BitVec.ofNat 32 j) h x7 := by
    unfold out1_7
    rw [View.canon_cons_unit_lit _ _ _ (by decide), View.ld_unit_lit _ _ (by decide)]
    unfold k1_pay5
    exact congrArg (ovr (BitVec.ofNat 32 j) h) (shapeCast_self x7 _)
  rw [e, ovr_apply j hj]

/-- What the scale buffer meets after point `t`: the columns written so far in this block row hold their final values. -/
def Rl1 (c : Dev nD) : (w : Fin cfg1.W) → Fin cfg1.N → ((cfg1.win w).block.Idx → Elt F (cfg1.win w).elt) → Prop
  | ⟨7, _⟩ => fun t X => ∀ idx : S1024x72.Idx, (idx 1).val < 4 * (t.val % 18 + 1) → (X : Vec F S1024x72 .f32) idx = full1_7 V c t idx
  | _ => fun _ _ => True

/-- The scale window alone is held to a relation. -/
def fgt1 : Fin cfg1.W → Bool
  | ⟨7, _⟩ => true
  | _ => false

theorem full_prev (c : Dev nD) (t u : Fin cfg1.N) (h : t.val / 18 = u.val / 18) : full1_7 V c t = full1_7 V c u := by
  funext idx; unfold full1_7 ptOf; simp only [h]

theorem fgt1_eq : ∀ w : Fin cfg1.W, fgt1 w = true → w = 7 := by decide

/-- One point's replacement carries the relation on. -/
theorem rl_step (c : Dev nD) (t : Fin cfg1.N) (x7 : Vec F S1024x72 .f32)
    (h : ∀ idx : S1024x72.Idx, (idx 1).val < 4 * (t.val % 18) → x7 idx = full1_7 V c t idx) :
    Rl1 V c 7 t (out1_7 (BitVec.ofNat 32 (grid1.coords t 1).val) (hblk1 V c t) x7) := by
  intro idx hidx
  have ht : t.val < 216 := t.isLt
  refine (out1_7_apply (grid1.coords t 1).val (by rw [coords1 t]; omega) _ _ idx).trans ?_
  rw [coords1 t]
  by_cases e : (idx 1).val / 4 = t.val % 18
  · rw [if_pos e]; unfold full1_7
    rw [show ptOf t (idx 1).val (lane_lt idx) = t from ptOf_self t _ _ e]
  · rw [if_neg e]; exact h idx (by omega)

/-! ## The pipeline's proof data -/

/-- The proof data of the second pipeline on core `c`: the arrays as the region finds them (`V`); after the body at point `t` each input's
    buffer at its block, the codes' at `out1_6`, the scales' at the whole scale block of its block row (which they reach at the row's last
    point, where the block is written back); nothing owed; each array at its windows' shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (hblk1 V c t)
    | ⟨7, _⟩ => full1_7 V c t
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (hblk1 V c t) := by dsimp only [dat1]
theorem after1_7 (c : Dev nD) (t : Fin cfg1.N) : (dat1 V c).after 7 t = full1_7 V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The proof data with the scale window read relationally. -/
abbrev rdat1 (c : Dev nD) := (dat1 V c).toRRel fgt1 (Rl1 V c)

/-- What the scale buffer may hold when a point begins: the columns of the earlier points of its block row. -/
theorem finds7 (c : Dev nD) (t : Fin cfg1.N) (X : Vec F S1024x72 .f32) (h : (rdat1 V c).Finds 7 t X) (idx : S1024x72.Idx)
    (hidx : (idx 1).val < 4 * (t.val % 18)) : X idx = full1_7 V c t idx := by
  have ht : t.val ≠ 0 := by rintro e; rw [e] at hidx; simp at hidx
  have hf : (cfg1.win 7).fetch t = false := rfl
  have hl : t.val < 216 := t.isLt
  rcases ((rdat1 V c).finds_of_pos hf ht X).mp h with h | h
  · have := (flush1_7 _).mp h; simp only at this; omega
  · have hR : Rl1 V c 7 _ X := (dat1 V c).toRRel_leaves (fgt := fgt1) (w := 7) rfl h
    rw [full_prev V c t ⟨t.val - 1, Nat.lt_of_le_of_lt (Nat.sub_le _ _) t.isLt⟩ (by show _ = (t.val - 1) / 18; omega)]
    exact hR idx (by show _ < 4 * ((t.val - 1) % 18 + 1); omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ Y, ⌜(rdat1 V c).Finds 7 t Y⌝ ∗ owns (c : Thread nD τ) (st1_7 t) fullShare Y))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ (∃ X, ⌜Rl1 V c 7 t X⌝ ∗ owns (c : Thread nD τ) (st1_7 t) fullShare X))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  swap; · iexact H7
  ipureintro
  exact rl_step V c t Y (finds7 V c t Y hY)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : (rdat1 (F := F) V c).BodyObligation (defs₀ (F := F)) Variants.none () Set.univ :=
  Pipeline.BodyObligationRel.toRRel (dat := dat1 (F := F) V c) (fgt := fgt1) (Rl := Rl1 V c) fun t => by
    rw [bigSep_W1, bigSep_W1, defs₀_row1]
    exact triple_restated (sound_body1 V c t) rfl .rfl fun _ => .rfl

/-- After the last point every array is at what the exact data say: a write-back of the scale block happens at a block row's last point
    only, where the relation fixes all 72 columns. -/
theorem arrAt7 (c : Dev nD) (w : Fin cfg1.W) (G : Buf (Elt F) ((cfg1.win w).arr.view.loc (c.tc : Thread nD τ)))
    (h : (rdat1 V c).ArrAt w cfg1.N G) : G = (dat1 V c).arrAt w cfg1.N := by
  by_cases hw : fgt1 w = true
  · obtain ⟨X, hX, hG⟩ := h.exists_exact
    have h7 : w = 7 := fgt1_eq w hw
    subst h7
    refine (hG (dat1 V c).after fun u hu hfl => ?_).trans rfl
    have hR : Rl1 V c 7 u (X u) := (dat1 V c).toRRel_leaves (fgt := fgt1) (w := 7) rfl (hX u hu hfl)
    have h17 := (flush1_7 u).mp hfl
    rw [after1_7]
    exact (funext fun idx => hR idx (by have := lane_lt idx; omega)).symm
  · have hw' : fgt1 w = false := by simpa using hw
    exact ((dat1 V c).toR_arrAt_iff w _ G).mp (((dat1 V c).toR.override_arrAt (by simp only [hw']) _ G).mp h)

theorem arraysAt1 (c : Dev nD) : (rdat1 V c).arraysAt cfg1.N ⊢ ((dat1 V c).arrays ((dat1 V c).arrAt · cfg1.N) : sProp 𝕄) := by
  unfold Pipeline.RDat.arraysAt Pipeline.Dat.arrays
  refine Idealize.SL.BI.bigSep_mono fun w _ => ?_
  have h1 : iprop(∃ G, ⌜(rdat1 V c).ArrAt w cfg1.N G⌝ ∗ (cfg1.win w).arr.view.loc (c.tc : Thread nD τ) ↦[(cfg1.win w).arr.view.set]{(rdat1 V c).share w} G)
      ⊢ ((cfg1.win w).arr.view.loc (c.tc : Thread nD τ) ↦[(cfg1.win w).arr.view.set]{(dat1 V c).share w} (dat1 V c).arrAt w cfg1.N : sProp 𝕄) := by
    iintro ⟨%G, %hG, H⟩
    rw [← arrAt7 V c w G hG]
    iexact H
  exact h1

end Regions

end Cert.Kernel.Hand

end
-- ==== Proof.KernelRun.lean ====
/-
  The run of the two calls between the host operations: both programs' frame, and what every buffer holds at the end, at any float instance.
-/
module

public import proofs.«01_k».proof.Proof.Gen.Kernel.Launch
public import proofs.«01_k».proof.Proof.Gen.Kernel.Skeleton
public import proofs.«01_k».proof.Proof.Gen.Kernel.Points
public import proofs.«01_k».proof.Proof.KernelStores
public import proofs.«01_k».proof.Proof.KernelBody0
public import proofs.«01_k».proof.Proof.KernelData1
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The same read relationally: the second call's scale window is held to `Rl1`, every other window to its exact contents. -/
def rdats : (p : Fin 2) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => rdat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    have he : ((pdats m ρ 0 c).arrays ((pdats m ρ 0 c).arrAt · 0) : sProp 𝕄) ⊢ (rdats m ρ 0 c).arrays (rdats m ρ 0 c).A :=
      BIBase.Entails.of_eq (show ((dat0 (V1 m ρ) c).arrays ((dat0 (V1 m ρ) c).arrAt · 0) : sProp 𝕄) = (dat0 (V1 m ρ) c).arrays (dat0 (V1 m ρ) c).A from rfl)
    isplitl [Ha]; · iapply he; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have ha : (rdats m ρ 0 c).arraysAt cfg0.N ⊢ ((pdats m ρ 0 c).arrays ((pdats m ρ 0 c).arrAt · cfg0.N) : sProp 𝕄) :=
      (dat0 (V1 m ρ) c).toR_arraysAt_post cfg0.N
    iintro ⟨Ha, HO, HY, Hrest⟩
    ihave Ha := ha $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RDat.RegionSeg (pcfgs (F := F)) adm (rdats m ρ) () defs₀ 𝒱₀ L lv 1 where
  win := launch₀1.win
  block_pos := launch₀1.block_pos
  stage_whole := launch₀1.stage_whole
  K := PEmpty
  osem k := k.elim
  ho := Pipeline.OwnSemFacts.none _
  hbody c := body_obligation1 (V3 m ρ) c
  hwaits := Pipeline.RDat.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    have he : ((pdats m ρ 1 c).arrays ((pdats m ρ 1 c).arrAt · 0) : sProp 𝕄) ⊢ (rdats m ρ 1 c).arrays (rdats m ρ 1 c).A :=
      BIBase.Entails.of_eq (show ((dat1 (V3 m ρ) c).arrays ((dat1 (V3 m ρ) c).arrAt · 0) : sProp 𝕄) = (dat1 (V3 m ρ) c).arrays (dat1 (V3 m ρ) c).A from rfl)
    isplitl [Ha]; · iapply he; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    have ha : (rdats m ρ 1 c).arraysAt cfg1.N ⊢ ((pdats m ρ 1 c).arrays ((pdats m ρ 1 c).arrAt · cfg1.N) : sProp 𝕄) :=
      arraysAt1 (V3 m ρ) c
    iintro ⟨Ha, HO, HY, Hrest⟩
    ihave Ha := ha $$ Ha
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN at any float instance: from any memory with zero counters, every weakly fair execution of @main on the TensorCores terminates,
    nothing faulting, and every final state has every unscoped buffer at `W4` and every semaphore counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W4 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run m ρ)

end Cert.Kernel.Hand

end
-- ==== Proof.KernelIdealStores.lean ====
/-
  What the kernel stores, in the quantiser's functions: each stored value of the two kernel bodies as `Quant.scale`, `Quant.clip` and their
  like of the block that the body read, at any float instance.
-/
module

public import proofs.«01_k».proof.Proof.Gen.KernelIdeal.Skeleton
public import proofs.«01_k».proof.Proof.Quant

@[expose] public section

noncomputable section

namespace Cert.KernelIdeal.Hand

open Idealize.ShloMosaic Cert.KernelIdeal.Gen

variable {F : FTy → Type} [FloatOps F]

/-! ## The payloads of the kernel's stores, by the quantiser's functions -/

/-- The largest magnitude of each row over 448. -/
def amax0 (y : FVec F S256x4608 .f32) : FVec F S256x1 .f32 :=
  mulf (shapeCast S256x1 (multiReduction .maximumf [1] S256 (absf y) 0xFF800000#32 reduces_S256x4608_S256 (.inl rfl) rfl) shapeCasts_S256_S256x1)
    (broadcast S256x1 (Scalar.ofBits .f32 0x3B124925#32))
/-- The codes of a block of rows of `x`. -/
def codes0 (y : FVec F S256x4608 .f32) : FVec F S256x4608 .fp8e4m3 :=
  Quant.clip (mulf y (broadcastTo S256x4608 (Quant.inv (amax0 y)) broadcasts_S256x1_S256x4608))

theorem pay0_t (v : Vec F S256x4608 .bf16) : k0_pay5 v = amax0 (k0_pay4 v) := rfl
theorem pay0_word (v : Vec F S256x4608 .bf16) : k0_pay1 (k0_pay5 v) (k0_pay6 v) (k0_pay7 v) = Quant.word (amax0 (k0_pay4 v)) := by
  unfold k0_pay1 k0_pay7 k0_pay6 Quant.word Quant.finish Quant.field Quant.step
  rw [pay0_t]
theorem pay0_scale (v : Vec F S256x4608 .bf16) :
    k0_pay2 (k0_pay5 v) (k0_pay6 v) (k0_pay7 v) = Quant.scale (amax0 (k0_pay4 v)) := by
  unfold k0_pay2 Quant.scale; rw [pay0_word]
theorem pay0_codes (v : Vec F S256x4608 .bf16) :
    k0_pay3 (k0_pay4 v) (k0_pay5 v) (k0_pay6 v) (k0_pay7 v) = codes0 (k0_pay4 v) := by
  unfold k0_pay3 codes0 Quant.clip Quant.inv; rw [pay0_word]

/-- The largest magnitude of each row of a group of 128 columns, over 448. -/
def amax1 (y : FVec F S1024x128 .f32) : FVec F S1024x1 .f32 :=
  mulf (shapeCast S1024x1 (multiReduction .maximumf [1] S1024 (absf y) 0xFF800000#32 reduces_S1024x128_S1024 (.inl rfl) rfl) shapeCasts_S1024_S1024x1)
    (broadcast S1024x1 (Scalar.ofBits .f32 0x3B124925#32))
/-- The scales of a group. -/
def scale1 (y : FVec F S1024x128 .f32) : FVec F S1024x1 .f32 := Quant.scale (amax1 y)
/-- The codes of a group. -/
def codes1 (y : FVec F S1024x128 .f32) : FVec F S1024x128 .fp8e4m3 :=
  Quant.clip (mulf y (broadcastTo S1024x128 (Quant.inv (amax1 y)) broadcasts_S1024x1_S1024x128))
/-- The scale block with the column `4 * j + g` replaced. -/
def over (a : BitVec 32) (g : BitVec 32) (s : FVec F S1024x1 .f32) (old : FVec F S1024x72 .f32) : FVec F S1024x72 .f32 :=
  select (cmpi .eq (iota .tc S1024x72 32 [1] iota_S1024x72_d1_w32) (broadcast S1024x72 (Scalar.addi (Scalar.muli a 4#32) g)))
    (broadcastTo S1024x72 (shapeCast S1024x1 s shapeCasts_S1024x1_S1024x1) broadcasts_S1024x1_S1024x72) old

/-- The four groups of 128 columns of a block. -/
def grp0 (h : FVec F S1024x512 .f32) : FVec F S1024x128 .f32 := extractStridedSlice S1024x128 ![0, 0] h slices_S1024x512_o0_0_S1024x128
def grp1 (h : FVec F S1024x512 .f32) : FVec F S1024x128 .f32 := extractStridedSlice S1024x128 ![0, 128] h slices_S1024x512_o0_128_S1024x128
def grp2 (h : FVec F S1024x512 .f32) : FVec F S1024x128 .f32 := extractStridedSlice S1024x128 ![0, 256] h slices_S1024x512_o0_256_S1024x128
def grp3 (h : FVec F S1024x512 .f32) : FVec F S1024x128 .f32 := extractStridedSlice S1024x128 ![0, 384] h slices_S1024x512_o0_384_S1024x128

theorem pay1_word0 (y : FVec F S1024x128 .f32) : k1_pay10 (k1_pay8 y) (k1_pay9 y) = Quant.word (amax1 y) := rfl
theorem pay1_word1 (h : FVec F S1024x512 .f32) :
    k1_pay18 (k1_pay14 h) (k1_pay15 h) (k1_pay16 h) (k1_pay17 h) = Quant.word (amax1 (grp1 h)) := rfl
theorem pay1_word2 (h : FVec F S1024x512 .f32) : k1_pay26 (k1_pay24 h) (k1_pay25 h) 33554432#32 = Quant.word (amax1 (grp2 h)) := rfl
theorem pay1_word3 (y : FVec F S1024x128 .f32) : k1_pay1 (k1_pay31 y) (k1_pay32 y) = Quant.word (amax1 y) := rfl

theorem pay1_codes0 (y : FVec F S1024x128 .f32) : k1_pay11 y (k1_pay8 y) (k1_pay9 y) = codes1 y := by
  unfold k1_pay11 codes1 Quant.clip Quant.inv; rw [pay1_word0]
theorem pay1_codes1 (h : FVec F S1024x512 .f32) :
    k1_pay21 (k1_pay20 (k1_pay13 h) (k1_pay14 h) (k1_pay15 h) (k1_pay16 h) (k1_pay17 h)) (Scalar.ofBits .f32 0xC3E00000#32) = codes1 (grp1 h) := by
  unfold k1_pay21 k1_pay20 codes1 Quant.clip Quant.inv; rw [pay1_word1]; rfl
theorem pay1_codes2 (h : FVec F S1024x512 .f32) :
    k1_pay27 (k1_pay23 h) (k1_pay24 h) (k1_pay25 h) 33554432#32 = codes1 (grp2 h) := by
  unfold k1_pay27 codes1 Quant.clip Quant.inv; rw [pay1_word2]; rfl
theorem pay1_codes3 (y : FVec F S1024x128 .f32) : k1_pay2 y (k1_pay31 y) (k1_pay32 y) = codes1 y := by
  unfold k1_pay2 codes1 Quant.clip Quant.inv; rw [pay1_word3]

theorem pay1_over0 (a : BitVec 32) (old : FVec F S1024x72 .f32) (y : FVec F S1024x128 .f32) :
    k1_pay12 a (iota .tc S1024x72 32 [1] iota_S1024x72_d1_w32) old (k1_pay8 y) (k1_pay9 y) = over a 0#32 (scale1 y) old := by
  unfold k1_pay12 over scale1 Quant.scale; rw [pay1_word0]
theorem pay1_over1 (a : BitVec 32) (old : FVec F S1024x72 .f32) (h : FVec F S1024x512 .f32) :
    k1_pay22 a (iota .tc S1024x72 32 [1] iota_S1024x72_d1_w32) old (k1_pay19 (k1_pay14 h) (k1_pay15 h) (k1_pay16 h) (k1_pay17 h))
      = over a 1#32 (scale1 (grp1 h)) old := by
  unfold k1_pay22 k1_pay19 over scale1 Quant.scale; rw [pay1_word1]
theorem pay1_over2 (a : BitVec 32) (old : FVec F S1024x72 .f32) (h : FVec F S1024x512 .f32) :
    k1_pay28 a (iota .tc S1024x72 32 [1] iota_S1024x72_d1_w32) old (k1_pay24 h) (k1_pay25 h) 33554432#32
      = over a 2#32 (scale1 (grp2 h)) old := by
  unfold k1_pay28 over scale1 Quant.scale; rw [pay1_word2]
theorem pay1_over3 (a : BitVec 32) (old : FVec F S1024x72 .f32) (y : FVec F S1024x128 .f32) :
    k1_pay3 a (iota .tc S1024x72 32 [1] iota_S1024x72_d1_w32) old (k1_pay31 y) (k1_pay32 y) = over a 3#32 (scale1 y) old := by
  unfold k1_pay3 over scale1 Quant.scale; rw [pay1_word3]

end Cert.KernelIdeal.Hand

end
-- ==== Proof.KernelIdealBody0.lean ====
/-
  The first call (quantising x): its body run on whole staging buffers, and the pipeline's proof data and body obligation, at any float instance.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealStores
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4608 := Rect.unit (s := S256x4608) ![0, 0] S256x4608.size inb_S256x4608_S256x4608_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds, stated over the input windows' blocks. -/

def k0_pay8 (x0 : Vec F S256x4608 .bf16) : FVec F S256x1 .f32 :=
  k0_pay5 (View.ld x0 r0_0) -- `v7`
def k0_pay9 (x0 : Vec F S256x4608 .bf16) : IVec S256x1 32 :=
  k0_pay6 (View.ld x0 r0_0) -- `v43`
def k0_pay10 (x0 : Vec F S256x4608 .bf16) : IVec S256x1 32 :=
  k0_pay7 (View.ld x0 r0_0) -- `v45`

/-- Window 1's staging buffer after the body, from the input windows' blocks: its 1 store as pieces, LAST
    FIRST. -/
def out0_1 (x0 : Vec F S256x4608 .bf16) : Vec F S256x4608 .fp8e4m3 :=
  View.canon [⟨r0_0, k0_pay3 (k0_pay4 (View.ld x0 r0_0)) (k0_pay8 x0) (k0_pay9 x0) (k0_pay10 x0)⟩]

/-- Its stores tile the buffer (checked by evaluation), so they cover it. -/
theorem cover0_1 (p0 : Vec F S256x4608 .fp8e4m3) (y : S256x4608.Idx) :
    ∃ pc ∈ ([⟨r0_0, p0⟩] : List (View.Piece (Elt F) S256x4608 .fp8e4m3)), y ∈ pc.1.set :=
  View.cover_of_tiled [⟨r0_0, p0⟩] S256x4608.size (by rfl) y

/-- Window 2's staging buffer after the body, from the input windows' blocks: its 1 store as pieces, LAST
    FIRST. -/
def out0_2 (x0 : Vec F S256x4608 .bf16) : Vec F S256x1 .f32 :=
  View.canon [⟨r0_1, k0_pay2 (k0_pay8 x0) (k0_pay9 x0) (k0_pay10 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x1 .f32) (harg3 : arg3.IsWhole)
    (x0 : Vec F S256x4608 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.KernelIdealBody1.lean ====
/-
  The second call (the two products, the gated activation and its quantising): its body run on whole staging buffers, at any float instance.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealStores
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses, and what it leaves in each output window's buffer -/

abbrev r1_0 : Rect S1024x4608 := Rect.unit (s := S1024x4608) ![0, 0] S1024x4608.size inb_S1024x4608_S1024x4608_0_0
abbrev r1_1 : Rect S1024x1 := Rect.unit (s := S1024x1) ![0, 0] S1024x1.size inb_S1024x1_S1024x1_0_0
abbrev r1_2 : Rect S4608x512 := Rect.unit (s := S4608x512) ![0, 0] S4608x512.size inb_S4608x512_S4608x512_0_0
abbrev r1_3 : Rect S1x512 := Rect.unit (s := S1x512) ![0, 0] S1x512.size inb_S1x512_S1x512_0_0
abbrev r1_4 : Rect S1024x512 := Rect.unit (s := S1024x512) ![0, 0] S1024x128.size inb_S1024x512_S1024x128_0_0
abbrev r1_5 : Rect S1024x512 := Rect.unit (s := S1024x512) ![0, 128] S1024x128.size inb_S1024x512_S1024x128_0_128
abbrev r1_6 : Rect S1024x512 := Rect.unit (s := S1024x512) ![0, 256] S1024x128.size inb_S1024x512_S1024x128_0_256
abbrev r1_7 : Rect S1024x512 := Rect.unit (s := S1024x512) ![0, 384] S1024x128.size inb_S1024x512_S1024x128_0_384
abbrev r1_8 : Rect S1024x72 := Rect.unit (s := S1024x72) ![0, 0] S1024x72.size inb_S1024x72_S1024x72_0_0

/-- The block of activations a point computes, from the six input blocks it reads. -/
def hval (x0 : Vec F S1024x4608 .fp8e4m3) (x1 : Vec F S1024x1 .f32) (x2 x3 : Vec F S4608x512 .fp8e4m3) (x4 x5 : Vec F S1x512 .f32) : FVec F S1024x512 .f32 :=
  k1_pay4 (View.ld x0 r1_0) (View.ld x1 r1_1) (View.ld x2 r1_2) (View.ld x3 r1_2) (View.ld x4 r1_3) (View.ld x5 r1_3)

/-- The codes' buffer after the body, from the block of activations: four groups of 128 columns, the last store first. -/
def out1_6 (h : FVec F S1024x512 .f32) : Vec F S1024x512 .fp8e4m3 :=
  View.canon [⟨r1_7, codes1 (grp3 h)⟩, ⟨r1_6, codes1 (grp2 h)⟩, ⟨r1_5, codes1 (grp1 h)⟩, ⟨r1_4, codes1 (grp0 h)⟩]

theorem cover1_6 (p3 p2 p1 p0 : Vec F S1024x128 .fp8e4m3) (y : S1024x512.Idx) :
    ∃ pc ∈ ([⟨r1_7, p3⟩, ⟨r1_6, p2⟩, ⟨r1_5, p1⟩, ⟨r1_4, p0⟩] : List (View.Piece (Elt F) S1024x512 .fp8e4m3)), y ∈ pc.1.set :=
  View.cover_of_tiled [⟨r1_7, p3⟩, ⟨r1_6, p2⟩, ⟨r1_5, p1⟩, ⟨r1_4, p0⟩] S1024x128.size (by rfl) y

/-- The scale buffer after the body at grid column `a`: the buffer it found, four columns replaced. -/
def ovr (a : BitVec 32) (h : FVec F S1024x512 .f32) (x7 : FVec F S1024x72 .f32) : FVec F S1024x72 .f32 :=
  over a 3#32 (scale1 (grp3 h)) (over a 2#32 (scale1 (grp2 h)) (over a 1#32 (scale1 (grp1 h)) (over a 0#32 (scale1 (grp0 h)) x7)))
def out1_7 (a : BitVec 32) (h : FVec F S1024x512 .f32) (x7 : Vec F S1024x72 .f32) : Vec F S1024x72 .f32 :=
  View.canon [⟨r1_8, ovr a h (k1_pay5 (View.ld x7 r1_8))⟩]

theorem cover1_7 (p0 : Vec F S1024x72 .f32) (y : S1024x72.Idx) :
    ∃ pc ∈ ([⟨r1_8, p0⟩] : List (View.Piece (Elt F) S1024x72 .f32)), y ∈ pc.1.set :=
  View.cover_of_tiled [⟨r1_8, p0⟩] S1024x72.size (by rfl) y

theorem pay6_eq (v0 : Vec F S1024x4608 .fp8e4m3) (v2 : Vec F S1024x1 .f32) (v4 v6 : Vec F S4608x512 .fp8e4m3) (v10 v16 : Vec F S1x512 .f32) :
    k1_pay6 v0 v2 v4 v6 v10 v16 = grp0 (k1_pay4 v0 v2 v4 v6 v10 v16) := rfl
theorem pay29_eq (h : FVec F S1024x512 .f32) : k1_pay29 h = grp3 h := rfl

/-! ## The body's triple -/

set_option maxHeartbeats 4000000 in
/-- The matmul body on whole staging memrefs, the inputs' and the scale buffer's at known contents and the codes' at anything, runs to the
    continuation holding the inputs' as they were, the codes' at `out1_6` and the scales' at `out1_7`. -/
theorem sound_kernel1 (c : Dev nD) (E : Set ℕ) (i : grid1.Coords) (arg2 : Memref sig .tc .vmem S1024x4608 .fp8e4m3) (harg2 : arg2.IsWhole) (arg3 : Memref sig .tc .vmem S1024x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .fp8e4m3) (harg8 : arg8.IsWhole) (arg9 : Memref sig .tc .vmem S1024x72 .f32) (harg9 : arg9.IsWhole)
    (x0 : Vec F S1024x4608 .fp8e4m3) (x1 : Vec F S1024x1 .f32) (x2 x3 : Vec F S4608x512 .fp8e4m3) (x4 x5 : Vec F S1x512 .f32) (x7 : Vec F S1024x72 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ (∃ d, owns (c : Thread nD τ) arg8 fullShare d) ∗ owns (c : Thread nD τ) arg9 fullShare x7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare (out1_6 (hval x0 x1 x2 x3 x4 x5))
            ∗ owns (c : Thread nD τ) arg9 fullShare (out1_7 (BitVec.ofNat 32 (i 1).val) (hval x0 x1 x2 x3 x4 x5) x7)) -∗ K ⟨⟩))
      ⊢ wp frame (wpE (defs₀ (F := F)) Variants.none c none) E (cc1_geglu_matmul i arg2 harg2 arg3 harg3 arg4 harg4 arg5 harg5 arg6 harg6 arg7 harg7 arg8 harg8 arg9 harg9) K := by
  simp only [cc1_geglu_matmul_eq_skeleton]; unfold cc1_geglu_matmul_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _ _ _ _)).trans ?_
    unfold out1_6
    rw [← pay1_codes0, ← pay1_codes1, ← pay1_codes2, ← pay1_codes3]
    rfl
  iexists _; isplitr
  swap; · iexact H7
  ipureintro
  refine (View.read_writes_eq_canon _ _ _ (cover1_7 _)).trans ?_
  unfold out1_7 ovr
  rw [← pay1_over0, ← pay1_over1, ← pay1_over2, ← pay1_over3]
  rfl

end Cert.KernelIdeal.Hand

end
-- ==== Proof.KernelIdealData1.lean ====
/-
  The second call's proof data. The scale block is revisited at the 18 points of a block row, each of which replaces four of its 72 columns: before the
  first of them its contents are unknown, after point t the columns below 4 * (t % 18 + 1) hold their final values.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealStores
public import proofs.«01_k».proof.Proof.KernelIdealBody1
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_geglu_matmul` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S1024x4608 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4608x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4608x512 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x72 .f32 := win1_7.stage (cfg1.slots t 7)
abbrev hs1_7 (t : Fin cfg1.N) : (ms1_7 t).IsWhole := hstage1_7 ((cfg1.slots t 7).cast nbuf1_7)

/-! ## What the outputs hold -/

theorem N1 : cfg1.N = 216 := rfl
theorem coords1 : ∀ t : Fin cfg1.N, (grid1.coords t 1).val = t.val % 18 := by decide +kernel

/-- The block of activations of point `t`. -/
def hblk1 (c : Dev nD) (t : Fin cfg1.N) : FVec F S1024x512 .f32 :=
  hval (iblk1 V c 0 t) (iblk1 V c 1 t) (iblk1 V c 2 t) (iblk1 V c 3 t) (iblk1 V c 4 t) (iblk1 V c 5 t)

/-- Group `g` of a block's four. -/
def grp (g : ℕ) (h : FVec F S1024x512 .f32) : FVec F S1024x128 .f32 :=
  match g with
  | 0 => grp0 h
  | 1 => grp1 h
  | 2 => grp2 h
  | _ => grp3 h

/-- A column of scales as every column of a scale block. -/
def cols (s : FVec F S1024x1 .f32) : FVec F S1024x72 .f32 :=
  broadcastTo S1024x72 (shapeCast S1024x1 s shapeCasts_S1024x1_S1024x1) broadcasts_S1024x1_S1024x72

theorem lane_lt (idx : S1024x72.Idx) : (idx 1).val < 72 := (idx 1).isLt

/-- The point whose columns include the column `l` in the block row of `t`. -/
def ptOf (t : Fin cfg1.N) (l : ℕ) (hl : l < 72) : Fin cfg1.N :=
  ⟨18 * (t.val / 18) + l / 4, by have ht : t.val < 216 := t.isLt; have hN := N1; omega⟩

theorem ptOf_self (t : Fin cfg1.N) (l : ℕ) (hl : l < 72) (e : l / 4 = t.val % 18) : ptOf t l hl = t := by
  apply Fin.ext
  have : (ptOf t l hl).val = 18 * (t.val / 18) + l / 4 := rfl
  omega

/-- The whole scale block of `t`'s block row. -/
def full1_7 (c : Dev nD) (t : Fin cfg1.N) : Vec F S1024x72 .f32 := fun idx =>
  cols (scale1 (grp ((idx 1).val % 4) (hblk1 V c (ptOf t (idx 1).val (lane_lt idx))))) idx

theorem over_apply (a g : BitVec 32) (s : FVec F S1024x1 .f32) (old : FVec F S1024x72 .f32) (idx : S1024x72.Idx) :
    over a g s old idx = if BitVec.ofNat 32 (idx 1).val = a * 4#32 + g then cols s idx else old idx := by
  show Scalar.select (Scalar.cmpi .eq (iota .tc S1024x72 32 [1] iota_S1024x72_d1_w32 idx) _) _ _ = _
  have hi : iota .tc S1024x72 32 [1] iota_S1024x72_d1_w32 idx = BitVec.ofNat 32 (idx 1).val := by
    show BitVec.ofNat 32 (0 * 72 + (idx 1).val) = _
    rw [Nat.zero_mul, Nat.zero_add]
  rw [hi]
  show (if BitVec.ofBool (BitVec.ofNat 32 (idx 1).val == a * 4#32 + g) = 1 then _ else _) = _
  by_cases h : BitVec.ofNat 32 (idx 1).val = a * 4#32 + g
  · rw [if_pos h, if_pos (by rw [beq_iff_eq.mpr h]; rfl)]; rfl
  · rw [if_neg h, if_neg (by rw [beq_eq_false_iff_ne.mpr h]; decide)]

theorem lane_eq (l j g : ℕ) (hl : l < 72) (hj : j < 18) (hg : g < 4) : BitVec.ofNat 32 l = BitVec.ofNat 32 j * 4#32 + BitVec.ofNat 32 g ↔ l = 4 * j + g := by
  rw [show (4#32 : BitVec 32) = BitVec.ofNat 32 4 from rfl, ← BitVec.ofNat_mul, ← BitVec.ofNat_add]
  constructor
  · intro h
    have := congrArg BitVec.toNat h
    simp only [BitVec.toNat_ofNat] at this
    omega
  · rintro rfl; rw [Nat.mul_comm]

theorem ovr_apply (j : ℕ) (hj : j < 18) (h : FVec F S1024x512 .f32) (x7 : FVec F S1024x72 .f32) (idx : S1024x72.Idx) :
    ovr (BitVec.ofNat 32 j) h x7 idx = if (idx 1).val / 4 = j then cols (scale1 (grp ((idx 1).val % 4) h)) idx else x7 idx := by
  have hl := lane_lt idx
  unfold ovr
  rw [over_apply, over_apply, over_apply, over_apply]
  simp only [lane_eq _ j 0 hl hj (by omega), lane_eq _ j 1 hl hj (by omega), lane_eq _ j 2 hl hj (by omega), lane_eq _ j 3 hl hj (by omega)]
  by_cases e : (idx 1).val / 4 = j
  · rw [if_pos e]
    have h4 : (idx 1).val % 4 = 0 ∨ (idx 1).val % 4 = 1 ∨ (idx 1).val % 4 = 2 ∨ (idx 1).val % 4 = 3 := by omega
    rcases h4 with h4 | h4 | h4 | h4 <;> rw [h4]
    · rw [if_neg (by omega), if_neg (by omega), if_neg (by omega), if_pos (by omega)]; rfl
    · rw [if_neg (by omega), if_neg (by omega), if_pos (by omega)]; rfl
    · rw [if_neg (by omega), if_pos (by omega)]; rfl
    · rw [if_pos (by omega)]; rfl
  · rw [if_neg e, if_neg (by omega), if_neg (by omega), if_neg (by omega), if_neg (by omega)]

theorem out1_7_apply (j : ℕ) (hj : j < 18) (h : FVec F S1024x512 .f32) (x7 : Vec F S1024x72 .f32) (idx : S1024x72.Idx) :
    out1_7 (BitVec.ofNat 32 j) h x7 idx = if (idx 1).val / 4 = j then cols (scale1 (grp ((idx 1).val % 4) h)) idx else x7 idx := by
  have e : out1_7 (BitVec.ofNat 32 j) h x7 = ovr (BitVec.ofNat 32 j) h x7 := by
    unfold out1_7
    rw [View.canon_cons_unit_lit _ _ _ (by decide), View.ld_unit_lit _ _ (by decide)]
    unfold k1_pay5
    exact congrArg (ovr (BitVec.ofNat 32 j) h) (shapeCast_self x7 _)
  rw [e, ovr_apply j hj]

/-- What the scale buffer meets after point `t`: the columns written so far in this block row hold their final values. -/
def Rl1 (c : Dev nD) : (w : Fin cfg1.W) → Fin cfg1.N → ((cfg1.win w).block.Idx → Elt F (cfg1.win w).elt) → Prop
  | ⟨7, _⟩ => fun t X => ∀ idx : S1024x72.Idx, (idx 1).val < 4 * (t.val % 18 + 1) → (X : Vec F S1024x72 .f32) idx = full1_7 V c t idx
  | _ => fun _ _ => True

/-- The scale window alone is held to a relation. -/
def fgt1 : Fin cfg1.W → Bool
  | ⟨7, _⟩ => true
  | _ => false

theorem full_prev (c : Dev nD) (t u : Fin cfg1.N) (h : t.val / 18 = u.val / 18) : full1_7 V c t = full1_7 V c u := by
  funext idx; unfold full1_7 ptOf; simp only [h]

theorem fgt1_eq : ∀ w : Fin cfg1.W, fgt1 w = true → w = 7 := by decide

/-- One point's replacement carries the relation on. -/
theorem rl_step (c : Dev nD) (t : Fin cfg1.N) (x7 : Vec F S1024x72 .f32)
    (h : ∀ idx : S1024x72.Idx, (idx 1).val < 4 * (t.val % 18) → x7 idx = full1_7 V c t idx) :
    Rl1 V c 7 t (out1_7 (BitVec.ofNat 32 (grid1.coords t 1).val) (hblk1 V c t) x7) := by
  intro idx hidx
  have ht : t.val < 216 := t.isLt
  refine (out1_7_apply (grid1.coords t 1).val (by rw [coords1 t]; omega) _ _ idx).trans ?_
  rw [coords1 t]
  by_cases e : (idx 1).val / 4 = t.val % 18
  · rw [if_pos e]; unfold full1_7
    rw [show ptOf t (idx 1).val (lane_lt idx) = t from ptOf_self t _ _ e]
  · rw [if_neg e]; exact h idx (by omega)

/-! ## The pipeline's proof data -/

/-- The proof data of the second pipeline on core `c`: the arrays as the region finds them (`V`); after the body at point `t` each input's
    buffer at its block, the codes' at `out1_6`, the scales' at the whole scale block of its block row (which they reach at the row's last
    point, where the block is written back); nothing owed; each array at its windows' shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (hblk1 V c t)
    | ⟨7, _⟩ => full1_7 V c t
  Φ _ := Pipeline.ΦA spec1 c
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (hblk1 V c t) := by dsimp only [dat1]
theorem after1_7 (c : Dev nD) (t : Fin cfg1.N) : (dat1 V c).after 7 t = full1_7 V c t := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The proof data with the scale window read relationally. -/
abbrev rdat1 (c : Dev nD) := (dat1 V c).toRRel fgt1 (Rl1 V c)

/-- What the scale buffer may hold when a point begins: the columns of the earlier points of its block row. -/
theorem finds7 (c : Dev nD) (t : Fin cfg1.N) (X : Vec F S1024x72 .f32) (h : (rdat1 V c).Finds 7 t X) (idx : S1024x72.Idx)
    (hidx : (idx 1).val < 4 * (t.val % 18)) : X idx = full1_7 V c t idx := by
  have ht : t.val ≠ 0 := by rintro e; rw [e] at hidx; simp at hidx
  have hf : (cfg1.win 7).fetch t = false := rfl
  have hl : t.val < 216 := t.isLt
  rcases ((rdat1 V c).finds_of_pos hf ht X).mp h with h | h
  · have := (flush1_7 _).mp h; simp only at this; omega
  · have hR : Rl1 V c 7 _ X := (dat1 V c).toRRel_leaves (fgt := fgt1) (w := 7) rfl h
    rw [full_prev V c t ⟨t.val - 1, Nat.lt_of_le_of_lt (Nat.sub_le _ _) t.isLt⟩ (by show _ = (t.val - 1) / 18; omega)]
    exact hR idx (by show _ < 4 * ((t.val - 1) % 18 + 1); omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ Y, ⌜(rdat1 V c).Finds 7 t Y⌝ ∗ owns (c : Thread nD τ) (st1_7 t) fullShare Y))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ (∃ X, ⌜Rl1 V c 7 t X⌝ ∗ owns (c : Thread nD τ) (st1_7 t) fullShare X))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr
  swap; · iexact H7
  ipureintro
  exact rl_step V c t Y (finds7 V c t Y hY)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : (rdat1 (F := F) V c).BodyObligation (defs₀ (F := F)) Variants.none () Set.univ :=
  Pipeline.BodyObligationRel.toRRel (dat := dat1 (F := F) V c) (fgt := fgt1) (Rl := Rl1 V c) fun t => by
    rw [bigSep_W1, bigSep_W1, defs₀_row1]
    exact triple_restated (sound_body1 V c t) rfl .rfl fun _ => .rfl

/-- After the last point every array is at what the exact data say: a write-back of the scale block happens at a block row's last point
    only, where the relation fixes all 72 columns. -/
theorem arrAt7 (c : Dev nD) (w : Fin cfg1.W) (G : Buf (Elt F) ((cfg1.win w).arr.view.loc (c.tc : Thread nD τ)))
    (h : (rdat1 V c).ArrAt w cfg1.N G) : G = (dat1 V c).arrAt w cfg1.N := by
  by_cases hw : fgt1 w = true
  · obtain ⟨X, hX, hG⟩ := h.exists_exact
    have h7 : w = 7 := fgt1_eq w hw
    subst h7
    refine (hG (dat1 V c).after fun u hu hfl => ?_).trans rfl
    have hR : Rl1 V c 7 u (X u) := (dat1 V c).toRRel_leaves (fgt := fgt1) (w := 7) rfl (hX u hu hfl)
    have h17 := (flush1_7 u).mp hfl
    rw [after1_7]
    exact (funext fun idx => hR idx (by have := lane_lt idx; omega)).symm
  · have hw' : fgt1 w = false := by simpa using hw
    exact ((dat1 V c).toR_arrAt_iff w _ G).mp (((dat1 V c).toR.override_arrAt (by simp only [hw']) _ G).mp h)

theorem arraysAt1 (c : Dev nD) : (rdat1 V c).arraysAt cfg1.N ⊢ ((dat1 V c).arrays ((dat1 V c).arrAt · cfg1.N) : sProp 𝕄) := by
  unfold Pipeline.RDat.arraysAt Pipeline.Dat.arrays
  refine Idealize.SL.BI.bigSep_mono fun w _ => ?_
  have h1 : iprop(∃ G, ⌜(rdat1 V c).ArrAt w cfg1.N G⌝ ∗ (cfg1.win w).arr.view.loc (c.tc : Thread nD τ) ↦[(cfg1.win w).arr.view.set]{(rdat1 V c).share w} G)
      ⊢ ((cfg1.win w).arr.view.loc (c.tc : Thread nD τ) ↦[(cfg1.win w).arr.view.set]{(dat1 V c).share w} (dat1 V c).arrAt w cfg1.N : sProp 𝕄) := by
    iintro ⟨%G, %hG, H⟩
    rw [← arrAt7 V c w G hG]
    iexact H
  exact h1

end Regions

end Cert.KernelIdeal.Hand

end
-- ==== Proof.KernelIdealRun.lean ====
/-
  The run of the two calls between the host operations: both programs' frame, and what every buffer holds at the end, at any float instance.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealStores
public import proofs.«01_k».proof.Proof.KernelIdealBody0
public import proofs.«01_k».proof.Proof.KernelIdealData1
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Pipeline.Cells
public import Idealize.ShloMosaic.Lib.Pipeline.ValueKit.Basic
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- The same read relationally: the second call's scale window is held to `Rl1`, every other window to its exact contents. -/
def rdats : (p : Fin 2) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => rdat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    have he : ((pdats m ρ 0 c).arrays ((pdats m ρ 0 c).arrAt · 0) : sProp 𝕄) ⊢ (rdats m ρ 0 c).arrays (rdats m ρ 0 c).A :=
      BIBase.Entails.of_eq (show ((dat0 (V1 m ρ) c).arrays ((dat0 (V1 m ρ) c).arrAt · 0) : sProp 𝕄) = (dat0 (V1 m ρ) c).arrays (dat0 (V1 m ρ) c).A from rfl)
    isplitl [Ha]; · iapply he; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have ha : (rdats m ρ 0 c).arraysAt cfg0.N ⊢ ((pdats m ρ 0 c).arrays ((pdats m ρ 0 c).arrAt · cfg0.N) : sProp 𝕄) :=
      (dat0 (V1 m ρ) c).toR_arraysAt_post cfg0.N
    iintro ⟨Ha, HO, HY, Hrest⟩
    ihave Ha := ha $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RDat.RegionSeg (pcfgs (F := F)) adm (rdats m ρ) () defs₀ 𝒱₀ L lv 1 where
  win := launch₀1.win
  block_pos := launch₀1.block_pos
  stage_whole := launch₀1.stage_whole
  K := PEmpty
  osem k := k.elim
  ho := Pipeline.OwnSemFacts.none _
  hbody c := body_obligation1 (V3 m ρ) c
  hwaits := Pipeline.RDat.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    have he : ((pdats m ρ 1 c).arrays ((pdats m ρ 1 c).arrAt · 0) : sProp 𝕄) ⊢ (rdats m ρ 1 c).arrays (rdats m ρ 1 c).A :=
      BIBase.Entails.of_eq (show ((dat1 (V3 m ρ) c).arrays ((dat1 (V3 m ρ) c).arrAt · 0) : sProp 𝕄) = (dat1 (V3 m ρ) c).arrays (dat1 (V3 m ρ) c).A from rfl)
    isplitl [Ha]; · iapply he; iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    have ha : (rdats m ρ 1 c).arraysAt cfg1.N ⊢ ((pdats m ρ 1 c).arrays ((pdats m ρ 1 c).arrAt · cfg1.N) : sProp 𝕄) :=
      arraysAt1 (V3 m ρ) c
    iintro ⟨Ha, HO, HY, Hrest⟩
    ihave Ha := ha $$ Ha
    imodintro
    isplitl [Ha Hrest HY]
    · isplitl [Ha Hrest]
      · iapply hjoin; isplitl [Ha] <;> iassumption
      iexact HY
    unfold Pipeline.RDat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN at any float instance: from any memory with zero counters, every weakly fair execution of @main on the TensorCores terminates,
    nothing faulting, and every final state has every unscoped buffer at `W4` and every semaphore counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W4 m ρ c b) ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run m ρ)

end Cert.KernelIdeal.Hand

end
-- ==== Proof.Ladder.lean ====
/-
  The quantiser's scale over the reals. The exponent of the scale of `t` is the integer `expo t`: one more than the binary logarithm's
  floor where `2^-126 ≤ t < 2^126`, and zero elsewhere. The kernel finds it by a search over exponent fields and the reference by a logarithm; both
  give the scale `2 ^ expo t` and its inverse.
-/
module

public import proofs.«01_k».proof.Proof.Quant
public import Idealize.ShloMosaic.PureOps.Ideal
public import Idealize.ShloMosaic.PureOps.Ideal.Laws

@[expose] public section

noncomputable section

namespace Cert.Ladder

open Idealize.ShloMosaic

/-- The floor of the binary logarithm. -/
def ilog (r : ℝ) : ℤ := ⌊Real.log r * (1 / Real.log 2)⌋

theorem log_two_pos : 0 < Real.log 2 := Real.log_pos (by norm_num)

theorem zpow_le_iff {r : ℝ} (hr : 0 < r) (n : ℤ) : (2 : ℝ) ^ n ≤ r ↔ n ≤ ilog r := by
  unfold ilog
  rw [Int.le_floor, mul_one_div, le_div_iff₀ log_two_pos, ← Real.log_zpow, Real.log_le_log_iff (by positivity) hr]

theorem lt_zpow_iff {r : ℝ} (hr : 0 < r) (n : ℤ) : r < (2 : ℝ) ^ n ↔ ilog r < n := by
  rw [← not_le, zpow_le_iff hr, not_le]

/-- The exponent of the scale. -/
def expo (t : EReal) : ℤ :=
  if (((2 : ℝ) ^ (-126 : ℤ) : ℝ) : EReal) ≤ t ∧ t < (((2 : ℝ) ^ (126 : ℤ) : ℝ) : EReal) then ilog t.toReal + 1 else 0

/-- The scale and its inverse. -/
def scl (t : EReal) : EReal := (((2 : ℝ) ^ expo t : ℝ) : EReal)
def isc (t : EReal) : EReal := (((2 : ℝ) ^ (-expo t) : ℝ) : EReal)

/-! ## Words of powers of two -/

theorem neg_field : ∀ E : Fin 256, ((BitVec.ofNat 32 (E.val * 8388608)).extractLsb' (8 + 23) 1 == 1#1) = false := by decide +kernel
theorem exp_field : ∀ E : Fin 256, ((BitVec.ofNat 32 (E.val * 8388608)).extractLsb' 23 8).toNat = E.val := by decide +kernel
theorem frac_field : ∀ E : Fin 256, ((BitVec.ofNat 32 (E.val * 8388608)).extractLsb' 0 23).toNat = 0 := by decide +kernel

/-- What the word with exponent field `E` and no fraction denotes. -/
def v (E : ℕ) : EReal := Ideal.ofBits .f32 (BitVec.ofNat 32 (E * 8388608))

theorem v_eq (E : ℕ) (h : E < 256) :
    v E = if E = 255 then ⊤ else if E = 0 then 0 else (((2 : ℝ) ^ ((E : ℤ) - 127) : ℝ) : EReal) := by
  have h1 := neg_field ⟨E, h⟩
  have h2 := exp_field ⟨E, h⟩
  have h3 := frac_field ⟨E, h⟩
  simp only at h1 h2 h3
  unfold v Ideal.ofBits Ideal.ieee
  simp only [h1, h2, h3]
  norm_num
  split_ifs with h4 h5
  · rfl
  · rfl
  · congr 1
    rw [show ((E : ℤ) - 127) = 23 + ((E : ℤ) - 127 - 23) by ring, zpow_add₀ (by norm_num : (2 : ℝ) ≠ 0)]
    norm_num

theorem v_zero : v 0 = 0 := by rw [v_eq 0 (by norm_num)]; norm_num
theorem v_top : v 255 = ⊤ := by rw [v_eq 255 (by norm_num)]; norm_num
theorem v_mid (E : ℕ) (h0 : 0 < E) (h : E < 255) : v E = (((2 : ℝ) ^ ((E : ℤ) - 127) : ℝ) : EReal) := by
  rw [v_eq E (by omega), if_neg (by omega), if_neg (by omega)]

/-- The cut of the kernel is `2^126`, the smallest normal number `2^-126`. -/
theorem cut_eq : Ideal.ofBits .f32 0x7E800000#32 = (((2 : ℝ) ^ (126 : ℤ) : ℝ) : EReal) :=
  (show _ = v 253 from rfl).trans (by rw [v_mid 253 (by norm_num) (by norm_num)]; norm_num)
theorem small_eq : Ideal.ofBits .f32 0x00800000#32 = (((2 : ℝ) ^ (-126 : ℤ) : ℝ) : EReal) :=
  (show _ = v 1 from rfl).trans (by rw [v_mid 1 (by norm_num) (by norm_num)]; norm_num)
theorem one_eq : Ideal.ofBits .f32 0x3F800000#32 = ((1 : ℝ) : EReal) :=
  (show _ = v 127 from rfl).trans (by rw [v_mid 127 (by norm_num) (by norm_num)]; norm_num)
theorem two_eq : Ideal.ofBits .f32 0x40000000#32 = ((2 : ℝ) : EReal) :=
  (show _ = v 128 from rfl).trans (by rw [v_mid 128 (by norm_num) (by norm_num)]; norm_num)

/-! ## The search -/

/-- One step of the search on one element. -/
def sstep (t : EReal) (b f : BitVec 32) : BitVec 32 := if Ideal.ofBits .f32 (f + b) ≤ t then f + b else f

theorem cmp_le (a b : EReal) (x y : BitVec 32) :
    Scalar.select (FloatOps.cmpf (F := Ideal) (φ := .f32) .ole a b) x y = if a ≤ b then x else y := by
  by_cases h : a ≤ b <;> simp [Scalar.select, FloatOps.cmpf, Ideal.cmp, h]
theorem cmp_ge (a b : EReal) (x y : BitVec 32) :
    Scalar.select (FloatOps.cmpf (F := Ideal) (φ := .f32) .oge a b) x y = if b ≤ a then x else y := by
  by_cases h : b ≤ a <;> simp [Scalar.select, FloatOps.cmpf, Ideal.cmp, h]

theorem step_apply {S : Shape} (t : FVec Ideal S .f32) (b : BitVec 32) (f : IVec S 32) (i : S.Idx) :
    Quant.step t b f i = sstep (t i) b (f i) := cmp_le _ _ _ _

/-- The search holds the field between the values of `E` and `E + w`. -/
def Between (t : EReal) (E w : ℕ) : Prop := v E ≤ t ∧ E + w ≤ 256 ∧ (E + w = 256 ∨ t < v (E + w))

theorem sstep_between (t : EReal) (E w : ℕ) (hw : 0 < w) (h : Between t E (2 * w)) :
    ∃ E', sstep t (BitVec.ofNat 32 (w * 8388608)) (BitVec.ofNat 32 (E * 8388608)) = BitVec.ofNat 32 (E' * 8388608) ∧ Between t E' w := by
  obtain ⟨h1, h2, h3⟩ := h
  have e : BitVec.ofNat 32 (E * 8388608) + BitVec.ofNat 32 (w * 8388608) = BitVec.ofNat 32 ((E + w) * 8388608) := by
    rw [← BitVec.ofNat_add, add_mul]
  unfold sstep
  rw [e]
  by_cases hle : v (E + w) ≤ t
  · refine ⟨E + w, if_pos hle, hle, by omega, ?_⟩
    rw [show E + w + w = E + 2 * w by ring]; exact h3
  · exact ⟨E, if_neg hle, h1, by omega, Or.inr (not_le.mp hle)⟩

/-- The search finds the field. -/
theorem field_apply {S : Shape} (t : FVec Ideal S .f32) (i : S.Idx) (h0 : 0 ≤ t i) :
    ∃ E, Quant.field t i = BitVec.ofNat 32 (E * 8388608) ∧ Between (t i) E 1 := by
  have b0 : Between (t i) 0 (2 * 128) := ⟨by rw [v_zero]; exact h0, by norm_num, Or.inl (by norm_num)⟩
  obtain ⟨E1, e1, b1⟩ := sstep_between _ _ 128 (by norm_num) b0
  obtain ⟨E2, e2, b2⟩ := sstep_between _ _ 64 (by norm_num) b1
  obtain ⟨E3, e3, b3⟩ := sstep_between _ _ 32 (by norm_num) b2
  obtain ⟨E4, e4, b4⟩ := sstep_between _ _ 16 (by norm_num) b3
  obtain ⟨E5, e5, b5⟩ := sstep_between _ _ 8 (by norm_num) b4
  obtain ⟨E6, e6, b6⟩ := sstep_between _ _ 4 (by norm_num) b5
  obtain ⟨E7, e7, b7⟩ := sstep_between _ _ 2 (by norm_num) b6
  obtain ⟨E8, e8, b8⟩ := sstep_between _ _ 1 (by norm_num) b7
  refine ⟨E8, ?_, b8⟩
  unfold Quant.field
  simp only [step_apply]
  rw [← e8, ← e7, ← e6, ← e5, ← e4, ← e3, ← e2, ← e1]
  rfl

/-! ## The word -/

theorem expo_small (t : EReal) (h : ¬ (((2 : ℝ) ^ (-126 : ℤ) : ℝ) : EReal) ≤ t) : expo t = 0 := if_neg fun c => h c.1
theorem expo_big (t : EReal) (h : (((2 : ℝ) ^ (126 : ℤ) : ℝ) : EReal) ≤ t) : expo t = 0 := if_neg fun c => not_lt.mpr h c.2

/-- Between two neighbouring powers of two the exponent is the upper one's. -/
theorem expo_mid (t : EReal) (E : ℕ) (h1 : 1 ≤ E) (h2 : E ≤ 252) (hl : v E ≤ t) (hu : t < v (E + 1)) : expo t = (E : ℤ) - 126 := by
  rw [v_mid E (by omega) (by omega)] at hl
  rw [v_mid (E + 1) (by omega) (by omega)] at hu
  induction t with
  | bot => exact absurd hl (by simp)
  | top => exact absurd hu (by simp)
  | coe r =>
    have hl' : (2 : ℝ) ^ ((E : ℤ) - 127) ≤ r := EReal.coe_le_coe_iff.mp hl
    have hu' : r < (2 : ℝ) ^ ((E : ℤ) - 127 + 1) := by
      have := EReal.coe_lt_coe_iff.mp hu
      rwa [show (((E + 1 : ℕ) : ℤ) - 127) = (E : ℤ) - 127 + 1 by push_cast; ring] at this
    have hr : 0 < r := lt_of_lt_of_le (by positivity) hl'
    unfold expo
    rw [if_pos ⟨EReal.coe_le_coe_iff.mpr ((zpow_le_zpow_right₀ (by norm_num) (by omega)).trans hl'),
      EReal.coe_lt_coe_iff.mpr (hu'.trans_le (zpow_le_zpow_right₀ (by norm_num) (by omega)))⟩]
    rw [EReal.toReal_coe]
    have : ilog r = (E : ℤ) - 127 := by
      have a := (zpow_le_iff hr _).mp hl'
      have b := (lt_zpow_iff hr _).mp hu'
      omega
    rw [this]; ring

theorem expo_bounds (t : EReal) : -125 ≤ expo t ∧ expo t ≤ 126 := by
  unfold expo
  split_ifs with h
  · obtain ⟨hl, hu⟩ := h
    induction t with
    | bot => exact absurd hl (by simp)
    | top => exact absurd hu (by simp)
    | coe r =>
      have hl' := EReal.coe_le_coe_iff.mp hl
      have hu' := EReal.coe_lt_coe_iff.mp hu
      have hr : 0 < r := lt_of_lt_of_le (by positivity) hl'
      rw [EReal.toReal_coe]
      have a := (zpow_le_iff hr _).mp hl'
      have b := (lt_zpow_iff hr _).mp hu'
      omega
  · omega

theorem fin_word : ∀ E : Fin 253, 0 < E.val →
    (BitVec.ofNat 32 (E.val * 8388608) + 8388608#32).slt 8388608#32 = false ∧ (8388608#32).slt (BitVec.ofNat 32 (E.val * 8388608) + 8388608#32) = true
    ∧ BitVec.ofNat 32 (E.val * 8388608) + 8388608#32 = BitVec.ofNat 32 ((E.val + 1) * 8388608) := by decide +kernel

/-- The last part of the word on one element. -/
theorem finish_apply {S : Shape} (t : FVec Ideal S .f32) (f : IVec S 32) (i : S.Idx) :
    Quant.finish t f i = if (8388608#32).slt ((if (((2 : ℝ) ^ (126 : ℤ) : ℝ) : EReal) ≤ t i then 2139095040#32 else f i) + 8388608#32)
      then (if (((2 : ℝ) ^ (126 : ℤ) : ℝ) : EReal) ≤ t i then 2139095040#32 else f i) + 8388608#32 else 1065353216#32 := by
  have e : (select (cmpf .oge t (broadcast S (Scalar.ofBits .f32 0x7E800000#32))) (broadcast S 2139095040#32) f) i
      = if (((2 : ℝ) ^ (126 : ℤ) : ℝ) : EReal) ≤ t i then 2139095040#32 else f i := by
    rw [← cut_eq]; exact cmp_ge _ _ _ _
  rw [← e]
  generalize he : (select (cmpf .oge t (broadcast S (Scalar.ofBits .f32 0x7E800000#32))) (broadcast S 2139095040#32) f) = g
  unfold Quant.finish
  rw [he]
  show Scalar.select (IntOp.cmpi .sgt (g i + 8388608#32) 8388608#32) (g i + 8388608#32) 1065353216#32 = _
  by_cases h : (8388608#32).slt (g i + 8388608#32) = true <;> simp [Scalar.select, IntOp.cmpi, h]

/-- The word of the scale holds the exponent, biased. -/
theorem word_apply {S : Shape} (t : FVec Ideal S .f32) (i : S.Idx) (h0 : 0 ≤ t i) :
    Quant.word t i = BitVec.ofNat 32 ((expo (t i) + 127).toNat * 8388608) := by
  obtain ⟨E, hE, hb, hw, hu⟩ := field_apply t i h0
  unfold Quant.word
  rw [finish_apply, hE]
  by_cases hc : (((2 : ℝ) ^ (126 : ℤ) : ℝ) : EReal) ≤ t i
  · rw [if_pos hc, expo_big _ hc]; decide
  · rw [if_neg hc]
    have hE252 : E ≤ 252 := by
      by_contra hgt
      apply hc
      refine le_trans ?_ hb
      by_cases h255 : E = 255
      · rw [h255, v_top]; exact le_top
      · rw [v_mid E (by omega) (by omega)]
        exact EReal.coe_le_coe_iff.mpr (zpow_le_zpow_right₀ (by norm_num) (by omega))
    have hu' : t i < v (E + 1) := hu.resolve_left (by omega)
    rcases Nat.eq_zero_or_pos E with h | h
    · subst h
      rw [expo_small]
      · decide
      · rw [v_mid 1 (by norm_num) (by norm_num)] at hu'
        exact not_le.mpr (by simpa using hu')
    · rw [expo_mid (t i) E h hE252 hb hu']
      obtain ⟨_, a, b⟩ := fin_word ⟨E, by omega⟩ h
      simp only at a b
      rw [if_pos a, b, show ((E : ℤ) - 126 + 127).toNat = E + 1 by omega]

theorem inv_word : ∀ E : Fin 254, 0 < E.val →
    (2130706432#32 : BitVec 32) - BitVec.ofNat 32 (E.val * 8388608) = BitVec.ofNat 32 ((254 - E.val) * 8388608) := by decide +kernel

/-- The kernel's scale. -/
theorem scale_apply {S : Shape} (t : FVec Ideal S .f32) (i : S.Idx) (h0 : 0 ≤ t i) : Quant.scale t i = scl (t i) := by
  have hb := expo_bounds (t i)
  show Ideal.ofBits .f32 (Quant.word t i) = _
  rw [word_apply t i h0]
  show v _ = _
  rw [v_mid _ (by omega) (by omega)]
  unfold scl
  congr 2; omega

/-- The kernel's inverse scale. -/
theorem inv_apply {S : Shape} (t : FVec Ideal S .f32) (i : S.Idx) (h0 : 0 ≤ t i) : Quant.inv t i = isc (t i) := by
  have hb := expo_bounds (t i)
  show Ideal.ofBits .f32 ((2130706432#32 : BitVec 32) - Quant.word t i) = _
  rw [word_apply t i h0, inv_word ⟨(expo (t i) + 127).toNat, by omega⟩ (by simp only; omega)]
  show v _ = _
  rw [v_mid _ (by simp only; omega) (by simp only; omega)]
  unfold isc
  congr 2
  simp only; omega

/-! ## The reference's exponent -/

/-- The reference's exponent as it writes it: the floor of a quotient of logarithms, in range. -/
def rexp (t : EReal) : EReal :=
  Scalar.select (IntOp.andi (FloatOps.cmpf (F := Ideal) (φ := .f32) .oge t (Ideal.ofBits .f32 0x00800000#32))
      (FloatOps.cmpf (F := Ideal) (φ := .f32) .olt t (Ideal.ofBits .f32 0x7E800000#32)))
    (Ideal.liftRound Int.floor (Ideal.div (Ideal.log t) (Ideal.log (Ideal.ofBits .f32 0x40000000#32))) + Ideal.ofBits .f32 0x3F800000#32)
    (Ideal.ofBits .f32 0x00000000#32)

theorem rexp_eq (t : EReal) : rexp t = (((expo t : ℤ) : ℝ) : EReal) := by
  unfold rexp
  rw [small_eq, cut_eq, two_eq, one_eq]
  by_cases h : (((2 : ℝ) ^ (-126 : ℤ) : ℝ) : EReal) ≤ t ∧ t < (((2 : ℝ) ^ (126 : ℤ) : ℝ) : EReal)
  · have e1 : expo t = ilog t.toReal + 1 := if_pos h
    rw [e1]
    obtain ⟨hl, hu⟩ := h
    have c : IntOp.andi (FloatOps.cmpf (F := Ideal) (φ := .f32) .oge t (((2 : ℝ) ^ (-126 : ℤ) : ℝ) : EReal))
        (FloatOps.cmpf (F := Ideal) (φ := .f32) .olt t (((2 : ℝ) ^ (126 : ℤ) : ℝ) : EReal)) = 1#1 := by
      simp only [FloatOps.cmpf, Ideal.cmp, hl, hu, decide_true]; decide
    rw [c, show ∀ x y : EReal, Scalar.select 1#1 x y = x from fun _ _ => rfl]
    induction t with
    | bot => exact absurd hl (by simp)
    | top => exact absurd hu (by simp)
    | coe r =>
      have hl' := EReal.coe_le_coe_iff.mp hl
      have hr : 0 < r := lt_of_lt_of_le (by positivity) hl'
      have l2 : Real.log 2 ≠ 0 := (Real.log_pos (by norm_num)).ne'
      have a : Ideal.log (r : EReal) = ((Real.log r : ℝ) : EReal) := by
        show (if r ≤ 0 then (⊥ : EReal) else _) = _
        rw [if_neg (not_le.mpr hr)]
      have b : Ideal.log ((2 : ℝ) : EReal) = ((Real.log 2 : ℝ) : EReal) := by
        show (if (2 : ℝ) ≤ 0 then (⊥ : EReal) else _) = _
        rw [if_neg (by norm_num)]
      rw [a, b, Ideal.div_coe l2, ← EReal.coe_mul, EReal.toReal_coe]
      show (((⌊Real.log r * (1 / Real.log 2)⌋ : ℤ) : ℝ) : EReal) + ((1 : ℝ) : EReal) = _
      rw [← EReal.coe_add]
      unfold ilog
      push_cast; rfl
  · have e1 : expo t = 0 := if_neg h
    have c : IntOp.andi (FloatOps.cmpf (F := Ideal) (φ := .f32) .oge t (((2 : ℝ) ^ (-126 : ℤ) : ℝ) : EReal))
        (FloatOps.cmpf (F := Ideal) (φ := .f32) .olt t (((2 : ℝ) ^ (126 : ℤ) : ℝ) : EReal)) = 0#1 := by
      rcases not_and_or.mp h with h | h <;> simp only [FloatOps.cmpf, Ideal.cmp, h, decide_false]
      · cases decide (t < (((2 : ℝ) ^ (126 : ℤ) : ℝ) : EReal)) <;> decide
      · cases decide ((((2 : ℝ) ^ (-126 : ℤ) : ℝ) : EReal) ≤ t) <;> decide
    rw [c, e1, show ∀ x y : EReal, Scalar.select 0#1 x y = y from fun _ _ => rfl]
    exact v_zero.trans (by simp)

/-- The reference's scale. -/
theorem rscale_eq (t : EReal) : Ideal.exp2 (rexp t) = scl t := by
  rw [rexp_eq]
  show ((Real.rpow 2 ((expo t : ℤ) : ℝ) : ℝ) : EReal) = _
  unfold scl
  congr 1
  exact Real.rpow_intCast 2 (expo t)

/-- The reference's inverse scale. -/
theorem rinv_eq (t : EReal) : Ideal.exp2 (Ideal.ofBits .f32 0x00000000#32 - rexp t) = isc t := by
  rw [rexp_eq, show Ideal.ofBits .f32 0x00000000#32 = ((0 : ℝ) : EReal) from v_zero, ← EReal.coe_sub]
  show ((Real.rpow 2 (0 - ((expo t : ℤ) : ℝ)) : ℝ) : EReal) = _
  unfold isc
  congr 1
  rw [zero_sub, ← Int.cast_neg]
  exact Real.rpow_intCast 2 (-expo t)

end Cert.Ladder

end
-- ==== Proof.Spec.lean ====
/-
  The problem's mathematics over the extended reals, entry by entry: the largest magnitude of a row over 448, the code of an entry, the product of
  codes and weights with both scales, the gated activation. The value modules show that the kernel's and the reference's results are these.
-/
module

public import proofs.«01_k».proof.Proof.Ladder
public import Idealize.ShloMosaic.Lib.Pointwise

@[expose] public section

noncomputable section

namespace Cert.Spec

open Idealize.ShloMosaic Cert.Ladder
open scoped BigOperators

/-- The largest magnitude of a family, over 448. -/
def amax {n : ℕ} (f : Fin n → EReal) : EReal :=
  (Finset.univ.fold max (Ideal.ofBits .f32 0xFF800000#32) fun k => max (f k) (-(f k))) * Ideal.ofBits .f32 0x3B124925#32

/-- The clipped quotient of an entry by its scale. -/
def code (t y : EReal) : EReal :=
  min (Ideal.ofBits .f32 0x43E00000#32) (max (Ideal.ofBits .f32 0xC3E00000#32) (y * isc t))

/-- The gated activation of a gate and an up value. -/
def act (g u : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * g * g))))) * u

section
variable (x : Fin 12288 → Fin 4608 → EReal) (w : Fin 4608 → Fin 18432 → EReal) (s : Fin 18432 → EReal)

/-- The largest magnitude of a row of the input, over 448, the row's scale and its codes. -/
def xa (r : Fin 12288) : EReal := amax (x r)
def xs (r : Fin 12288) : EReal := scl (xa x r)
def xc (r : Fin 12288) (k : Fin 4608) : EReal := code (xa x r) (x r k)

/-- The scaled product. -/
def y (r : Fin 12288) (c : Fin 18432) : EReal := (∑ k, xc x r k * w k c) * xs x r * s c

/-- The gated activation. -/
def h (r : Fin 12288) (j : Fin 9216) : EReal :=
  act (y x w s r ⟨j.val, by omega⟩) (y x w s r ⟨9216 + j.val, by omega⟩)

/-- The largest magnitude of a group of 128 of its columns, over 448, the group's scale and the codes. -/
def ha (r : Fin 12288) (g : Fin 72) : EReal := amax fun l : Fin 128 => h x w s r ⟨128 * g.val + l.val, by omega⟩
def hs (r : Fin 12288) (g : Fin 72) : EReal := scl (ha x w s r g)
def hc (r : Fin 12288) (j : Fin 9216) : EReal := code (ha x w s r ⟨j.val / 128, by omega⟩) (h x w s r j)

end

theorem abs_nonneg (a : EReal) : 0 ≤ max a (-a) := by
  rcases le_total 0 a with h | h
  · exact le_max_of_le_left h
  · exact le_max_of_le_right (EReal.neg_nonneg.mpr h)

theorem scale_const_nonneg : 0 ≤ Ideal.ofBits .f32 0x3B124925#32 := by
  simp [Ideal.ofBits, Ideal.ieee, -EReal.coe_mul]

theorem amax_nonneg {n : ℕ} (hn : 0 < n) (f : Fin n → EReal) : 0 ≤ amax f := by
  unfold amax
  refine mul_nonneg ?_ scale_const_nonneg
  rw [Finset.le_fold_max]
  exact Or.inr ⟨⟨0, hn⟩, Finset.mem_univ _, abs_nonneg _⟩

/-- A maximum along one axis, over a family that the entries are. -/
theorem max_axis {S T : Shape} {a : Fin S.rank} (src : FVec Ideal S .f32) (h : S.Reduces [a] T) (hφ : FKind.Formats .f32)
    (hacc : (0xFF800000#32 : BitVec FTy.f32.bits) = FKind.maximumf.neutral .f32 hφ) (j : T.Idx) (g : Fin (S.size a) → EReal) (hg : ∀ k, src (h.lift j k) = g k) :
    multiReduction .maximumf [a] T src 0xFF800000#32 h hφ hacc j = Finset.univ.fold max (Ideal.ofBits .f32 0xFF800000#32) g := by
  rw [Ideal.multiReduction_maximumf_single]
  exact congrArg (fun f => Finset.fold max _ f _) (funext hg)

end Cert.Spec

end
-- ==== Proof.KernelIdealPoint.lean ====
/-
  The kernel's block values over the reals, entry by entry.
-/
module

public import proofs.«01_k».proof.Proof.Spec
public import proofs.«01_k».proof.Proof.KernelIdealData1

@[expose] public section

noncomputable section

namespace Cert.KernelIdeal.Hand

open Idealize.ShloMosaic Cert.KernelIdeal.Gen Cert.Ladder Cert.Spec
open scoped BigOperators

theorem clip_apply {S : Shape} (y : FVec Ideal S .f32) (i : S.Idx) :
    Quant.clip y i = min (Ideal.ofBits .f32 0x43E00000#32) (max (Ideal.ofBits .f32 0xC3E00000#32) (y i)) := rfl

theorem absf_apply {S : Shape} (v : FVec Ideal S .f32) (i : S.Idx) : (absf v) i = max (v i) (-(v i)) := rfl

theorem over448_apply {S : Shape} (a : FVec Ideal S .f32) (i : S.Idx) :
    (mulf a (broadcast S (Scalar.ofBits .f32 0x3B124925#32)) : FVec Ideal S .f32) i = a i * Ideal.ofBits .f32 0x3B124925#32 := rfl

/-! ## The first call -/

theorem pay4_apply (v : Vec Ideal S256x4608 .bf16) (r : Fin 256) (k : Fin 4608) : k0_pay4 v (ix2 r k) = v (ix2 r k) := by
  pointwise [k0_pay4]

theorem keep0_apply (v : FVec Ideal S256 .f32) (r : Fin 256) (z : Fin 1) :
    shapeCast S256x1 v shapeCasts_S256_S256x1 (ix2 r z) = v (ix1 r) := by
  pointwise

theorem amax0_apply (y : FVec Ideal S256x4608 .f32) (r : Fin 256) (z : Fin 1) :
    amax0 y (ix2 r z) = amax fun k => y (ix2 r k) := by
  unfold amax0
  rw [over448_apply, keep0_apply]
  unfold amax
  refine congrArg (fun a => a * Ideal.ofBits .f32 0x3B124925#32) ?_
  refine max_axis (a := (1 : Fin 2)) (absf y) reduces_S256x4608_S256 _ _ (ix1 r) (fun k : Fin 4608 => max (y (ix2 r k)) (-(y (ix2 r k)))) fun k => ?_
  have e : reduces_S256x4608_S256.lift (ix1 r) k = ix2 r k := by
    funext a; match a with | ⟨0, _⟩ => rfl | ⟨1, _⟩ => rfl
  exact (congrArg (absf y) e).trans (absf_apply y _)

theorem codes0_apply (y : FVec Ideal S256x4608 .f32) (r : Fin 256) (k : Fin 4608) :
    codes0 y (ix2 r k) = code (amax fun k => y (ix2 r k)) (y (ix2 r k)) := by
  unfold codes0
  rw [clip_apply]
  unfold code
  have e : (broadcastTo S256x4608 (Quant.inv (amax0 y)) broadcasts_S256x1_S256x4608) (ix2 r k) = isc (amax fun k => y (ix2 r k)) := by
    pointwise
    rw [inv_apply _ _ (by rw [amax0_apply]; exact amax_nonneg (by norm_num) _), amax0_apply]
  show min _ (max _ (y (ix2 r k) * _)) = _
  rw [e]

theorem scale0_apply (y : FVec Ideal S256x4608 .f32) (r : Fin 256) (z : Fin 1) :
    Quant.scale (amax0 y) (ix2 r z) = scl (amax fun k => y (ix2 r k)) := by
  rw [scale_apply _ _ (by rw [amax0_apply]; exact amax_nonneg (by norm_num) _), amax0_apply]

/-! ## The second call -/

theorem keep1_apply (v : FVec Ideal S1024 .f32) (r : Fin 1024) (z : Fin 1) :
    shapeCast S1024x1 v shapeCasts_S1024_S1024x1 (ix2 r z) = v (ix1 r) := by
  pointwise

theorem amax1_apply (y : FVec Ideal S1024x128 .f32) (r : Fin 1024) (z : Fin 1) :
    amax1 y (ix2 r z) = amax fun k => y (ix2 r k) := by
  unfold amax1
  rw [over448_apply, keep1_apply]
  unfold amax
  refine congrArg (fun a => a * Ideal.ofBits .f32 0x3B124925#32) ?_
  refine max_axis (a := (1 : Fin 2)) (absf y) reduces_S1024x128_S1024 _ _ (ix1 r) (fun k : Fin 128 => max (y (ix2 r k)) (-(y (ix2 r k)))) fun k => ?_
  have e : reduces_S1024x128_S1024.lift (ix1 r) k = ix2 r k := by
    funext a; match a with | ⟨0, _⟩ => rfl | ⟨1, _⟩ => rfl
  exact (congrArg (absf y) e).trans (absf_apply y _)

theorem codes1_apply (y : FVec Ideal S1024x128 .f32) (r : Fin 1024) (k : Fin 128) :
    codes1 y (ix2 r k) = code (amax fun k => y (ix2 r k)) (y (ix2 r k)) := by
  unfold codes1
  rw [clip_apply]
  unfold code
  have e : (broadcastTo S1024x128 (Quant.inv (amax1 y)) broadcasts_S1024x1_S1024x128) (ix2 r k) = isc (amax fun k => y (ix2 r k)) := by
    pointwise
    rw [inv_apply _ _ (by rw [amax1_apply]; exact amax_nonneg (by norm_num) _), amax1_apply]
  show min _ (max _ (y (ix2 r k) * _)) = _
  rw [e]

theorem scale1_apply (y : FVec Ideal S1024x128 .f32) (r : Fin 1024) (z : Fin 1) :
    scale1 y (ix2 r z) = scl (amax fun k => y (ix2 r k)) := by
  unfold scale1
  rw [scale_apply _ _ (by rw [amax1_apply]; exact amax_nonneg (by norm_num) _), amax1_apply]

theorem cols_apply (s : FVec Ideal S1024x1 .f32) (r : Fin 1024) (l : Fin 72) : cols s (ix2 r l) = s (ix2 r 0) := by
  pointwise [cols]

/-- Group `g` of the four, read in the block. -/
theorem grp_apply (g : ℕ) (hg : g < 4) (h : FVec Ideal S1024x512 .f32) (r : Fin 1024) (k : Fin 128) :
    grp g h (ix2 r k) = h (ix2 r ⟨128 * g + k.val, by omega⟩) := by
  interval_cases g
  · show grp0 h _ = _; unfold grp0; pointwise
  · show grp1 h _ = _; unfold grp1; pointwise
  · show grp2 h _ = _; unfold grp2; pointwise
  · show grp3 h _ = _; unfold grp3; pointwise

/-- The block of activations. -/
theorem pay_h_apply (v0 : Vec Ideal S1024x4608 .fp8e4m3) (v2 : Vec Ideal S1024x1 .f32) (v4 v6 : Vec Ideal S4608x512 .fp8e4m3)
    (v10 v16 : Vec Ideal S1x512 .f32) (r : Fin 1024) (c : Fin 512) :
    k1_pay4 v0 v2 v4 v6 v10 v16 (ix2 r c)
      = act ((∑ k, v0 (ix2 r k) * v4 (ix2 k c)) * v2 (ix2 r 0) * v10 (ix2 0 c)) ((∑ k, v0 (ix2 r k) * v6 (ix2 k c)) * v2 (ix2 r 0) * v16 (ix2 0 c)) := by
  pointwise [k1_pay4, act]

end Cert.KernelIdeal.Hand

end
-- ==== Proof.KernelIdealArrays.lean ====
/-
  The kernel's result arrays over the reals, entry by entry.
-/
module

public import proofs.«01_k».proof.Proof.KernelIdealPoint
public import proofs.«01_k».proof.Proof.KernelIdealRun
public import Idealize.ShloMosaic.Lib.Pipeline.ValueKit

@[expose] public section

noncomputable section

namespace Cert.KernelIdeal.Hand

open Cert.KernelIdeal.Gen
open Idealize.ShloMosaic Idealize.ShloMosaic.TcCoe
open Idealize.SL Idealize.SL.Sem Cert.Ladder Cert.Spec
open Idealize.ShloMosaic.Pipeline (Dat Cfg Window)
open scoped BigOperators

variable (V : (c : Dev nD) → (b : Ref sig .tc) → Buf (Elt Ideal) ((c : Thread nD τ).loc b))

/-- The rows of a rank-2 array. -/
def rows {a b : ℕ} (v : (⟨2, ![a, b]⟩ : Shape).Idx → EReal) : Fin a → Fin b → EReal := fun r k => v (ix2 r k)

/-! ## The first kernel: the quantised activations -/

theorem out0_1_eq (x0 : Vec Ideal S256x4608 .bf16) : out0_1 x0 = codes0 (k0_pay4 x0) := by
  unfold out0_1
  rw [View.canon_cons_unit_lit _ _ _ (by decide), View.ld_unit_lit _ _ (by decide)]
  unfold k0_pay8 k0_pay9 k0_pay10
  rw [View.ld_unit_lit _ _ (by decide), pay0_codes]

theorem out0_2_eq (x0 : Vec Ideal S256x4608 .bf16) : out0_2 x0 = Quant.scale (amax0 (k0_pay4 x0)) := by
  unfold out0_2
  rw [View.canon_cons_unit_lit _ _ _ (by decide)]
  unfold k0_pay8 k0_pay9 k0_pay10
  rw [View.ld_unit_lit _ _ (by decide), pay0_scale]

theorem index0_0 : ∀ t : Fin cfg0.N, win0_0.index t = ![t.val, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![t.val, 0] := (by decide +kernel : ∀ t : Fin grid0.N, _)

theorem lt0 (t : Fin cfg0.N) (r : Fin 256) : t.val * 256 + r.val < 12288 := by
  have ht : t.val < 48 := t.isLt
  omega

theorem iblk0_0 (c : Dev nD) (t : Fin cfg0.N) (r : Fin 256) (k : Fin 4608) :
    iblk0 V c 0 t (ix2 r k) = V c main_v0 (ix2 ⟨t.val * 256 + r.val, lt0 t r⟩ k) := by
  blk_simp [iblk0]
  refine congrArg (V c main_v0) ?_
  blk_ext [index0_0]

theorem arr0_1 (c : Dev nD) : (dat0 V c).arrAt 1 cfg0.N = (fun i => xc (rows (V c main_v0)) (i 0) (i 1) : S12288x4608.Idx → EReal) := by
  refine (dat0 V c).arrAt_eq_of_covers 1 _ (by decide +kernel) fun t hf y => ?_
  blk_simp
  rw [after0_1, out0_1_eq]
  obtain ⟨r, k, rfl⟩ : ∃ (r : Fin 256) (k : Fin 4608), y = ix2 r k := ⟨y 0, y 1, eq_ix2 y⟩
  rw [codes0_apply]
  have e0 : (win0_1.blk t).view.emb (ix2 r k) 0 = (⟨t.val * 256 + r.val, lt0 t r⟩ : Fin 12288) := by
    apply Fin.ext; blk_simp [index0_1]
  have e1 : (win0_1.blk t).view.emb (ix2 r k) 1 = k := by
    apply Fin.ext; blk_simp [index0_1]
  rw [e0, e1]
  simp only [pay4_apply, iblk0_0]
  rfl

theorem arr0_2 (c : Dev nD) : (dat0 V c).arrAt 2 cfg0.N = (fun i => xs (rows (V c main_v0)) (i 0) : S12288x1.Idx → EReal) := by
  refine (dat0 V c).arrAt_eq_of_covers 2 _ (by decide +kernel) fun t hf y => ?_
  blk_simp
  rw [after0_2, out0_2_eq]
  obtain ⟨r, z, rfl⟩ : ∃ (r : Fin 256) (z : Fin 1), y = ix2 r z := ⟨y 0, y 1, eq_ix2 y⟩
  rw [scale0_apply]
  have e0 : (win0_2.blk t).view.emb (ix2 r z) 0 = (⟨t.val * 256 + r.val, lt0 t r⟩ : Fin 12288) := by
    apply Fin.ext; blk_simp [index0_2]
  rw [e0]
  simp only [pay4_apply, iblk0_0]
  rfl

/-! ## The second kernel: the products and the quantised result -/

theorem index1_0 : ∀ t : Fin cfg1.N, win1_0.index t = ![t.val / 18, 0] := (by decide +kernel : ∀ t : Fin grid1.N, _)
theorem index1_1 : ∀ t : Fin cfg1.N, win1_1.index t = ![t.val / 18, 0] := (by decide +kernel : ∀ t : Fin grid1.N, _)
theorem index1_2 : ∀ t : Fin cfg1.N, win1_2.index t = ![0, t.val % 18] := (by decide +kernel : ∀ t : Fin grid1.N, _)
theorem index1_3 : ∀ t : Fin cfg1.N, win1_3.index t = ![0, t.val % 18 + 18] := (by decide +kernel : ∀ t : Fin grid1.N, _)
theorem index1_4 : ∀ t : Fin cfg1.N, win1_4.index t = ![0, t.val % 18] := (by decide +kernel : ∀ t : Fin grid1.N, _)
theorem index1_5 : ∀ t : Fin cfg1.N, win1_5.index t = ![0, t.val % 18 + 18] := (by decide +kernel : ∀ t : Fin grid1.N, _)
theorem index1_6 : ∀ t : Fin cfg1.N, win1_6.index t = ![t.val / 18, t.val % 18] := (by decide +kernel : ∀ t : Fin grid1.N, _)
theorem index1_7 : ∀ t : Fin cfg1.N, win1_7.index t = ![t.val / 18, 0] := (by decide +kernel : ∀ t : Fin grid1.N, _)

/-- Row `r` of the block of rows at point `t`. -/
def rowOf (t : Fin cfg1.N) (r : Fin 1024) : Fin 12288 :=
  ⟨t.val / 18 * 1024 + r.val, by have ht : t.val < 216 := t.isLt; omega⟩
/-- Column `b` of the block of columns at point `t`. -/
def colOf (t : Fin cfg1.N) (b : Fin 512) : Fin 9216 :=
  ⟨t.val % 18 * 512 + b.val, by omega⟩

theorem iblk1_0 (c : Dev nD) (t : Fin cfg1.N) (r : Fin 1024) (k : Fin 4608) :
    iblk1 V c 0 t (ix2 r k) = V c main_v1_0 (ix2 (rowOf t r) k) := by
  blk_simp [iblk1]
  refine congrArg (V c main_v1_0) ?_
  blk_ext [index1_0, rowOf]
theorem iblk1_1 (c : Dev nD) (t : Fin cfg1.N) (r : Fin 1024) (z : Fin 1) :
    iblk1 V c 1 t (ix2 r z) = V c main_v1_1 (ix2 (rowOf t r) z) := by
  blk_simp [iblk1]
  refine congrArg (V c main_v1_1) ?_
  blk_ext [index1_1, rowOf]
theorem iblk1_2 (c : Dev nD) (t : Fin cfg1.N) (k : Fin 4608) (b : Fin 512) :
    iblk1 V c 2 t (ix2 k b) = V c main_arg1 (ix2 k ⟨(colOf t b).val, by omega⟩) := by
  blk_simp [iblk1]
  refine congrArg (V c main_arg1) ?_
  blk_ext [index1_2, colOf]
theorem iblk1_3 (c : Dev nD) (t : Fin cfg1.N) (k : Fin 4608) (b : Fin 512) :
    iblk1 V c 3 t (ix2 k b) = V c main_arg1 (ix2 k ⟨9216 + (colOf t b).val, by omega⟩) := by
  blk_simp [iblk1]
  refine congrArg (V c main_arg1) ?_
  blk_ext [index1_3, colOf]
theorem iblk1_4 (c : Dev nD) (t : Fin cfg1.N) (z : Fin 1) (b : Fin 512) :
    iblk1 V c 4 t (ix2 z b) = V c main_v2 (ix2 z ⟨(colOf t b).val, by omega⟩) := by
  blk_simp [iblk1]
  refine congrArg (V c main_v2) ?_
  blk_ext [index1_4, colOf]
theorem iblk1_5 (c : Dev nD) (t : Fin cfg1.N) (z : Fin 1) (b : Fin 512) :
    iblk1 V c 5 t (ix2 z b) = V c main_v2 (ix2 z ⟨9216 + (colOf t b).val, by omega⟩) := by
  blk_simp [iblk1]
  refine congrArg (V c main_v2) ?_
  blk_ext [index1_5, colOf]

theorem hval_eq (x0 : Vec Ideal S1024x4608 .fp8e4m3) (x1 : Vec Ideal S1024x1 .f32) (x2 x3 : Vec Ideal S4608x512 .fp8e4m3) (x4 x5 : Vec Ideal S1x512 .f32) :
    hval x0 x1 x2 x3 x4 x5 = k1_pay4 x0 x1 x2 x3 x4 x5 := by
  unfold hval
  rw [View.ld_unit_lit _ x0 (by decide), View.ld_unit_lit _ x1 (by decide), View.ld_unit_lit _ x2 (by decide),
    View.ld_unit_lit _ x3 (by decide), View.ld_unit_lit _ x4 (by decide), View.ld_unit_lit _ x5 (by decide)]

/-- What the second kernel finds in its arrays: the quantised activations, the weights and their scales. -/
structure Ins (c : Dev nD) (x : Fin 12288 → Fin 4608 → EReal) (w : Fin 4608 → Fin 18432 → EReal) (s : Fin 18432 → EReal) : Prop where
  codes : ∀ r k, V c main_v1_0 (ix2 r k) = xc x r k
  scale : ∀ r z, V c main_v1_1 (ix2 r z) = xs x r
  w : ∀ k b, V c main_arg1 (ix2 k b) = w k b
  s : ∀ z b, V c main_v2 (ix2 z b) = s b

variable {V} {c : Dev nD} {x : Fin 12288 → Fin 4608 → EReal} {w : Fin 4608 → Fin 18432 → EReal} {s : Fin 18432 → EReal}

theorem hblk1_apply (hi : Ins V c x w s) (t : Fin cfg1.N) (r : Fin 1024) (b : Fin 512) :
    hblk1 V c t (ix2 r b) = h x w s (rowOf t r) (colOf t b) := by
  unfold hblk1
  rw [hval_eq, pay_h_apply]
  simp only [iblk1_0, iblk1_1, iblk1_2, iblk1_3, iblk1_4, iblk1_5, hi.codes, hi.scale, hi.w, hi.s]
  rfl

end Cert.KernelIdeal.Hand

end
-- ==== Proof.KernelIdealOut.lean ====
/-
  The kernel's second pair of result arrays over the reals: the quantised activations of the gated product.
-/
module

public import proofs.«01_k».proof.Proof.KernelIdealArrays
public import Idealize.ShloMosaic.Lib.Pipeline.ValueKit

@[expose] public section

noncomputable section

namespace Cert.KernelIdeal.Hand

open Cert.KernelIdeal.Gen
open Idealize.ShloMosaic Idealize.ShloMosaic.TcCoe
open Idealize.SL Idealize.SL.Sem Cert.Ladder Cert.Spec
open Idealize.ShloMosaic.Pipeline (Dat Cfg Window)
open scoped BigOperators

variable {V : (c : Dev nD) → (b : Ref sig .tc) → Buf (Elt Ideal) ((c : Thread nD τ).loc b)}
variable {c : Dev nD} {x : Fin 12288 → Fin 4608 → EReal} {w : Fin 4608 → Fin 18432 → EReal} {s : Fin 18432 → EReal}

/-- The codes of one group of the block. -/
theorem group_apply (g : ℕ) (hg : g < 4) (y : FVec Ideal S1024x512 .f32) (r : Fin 1024) (k : Fin 128) :
    codes1 (grp g y) (ix2 r k)
      = code (amax fun l : Fin 128 => y (ix2 r ⟨128 * g + l.val, by omega⟩)) (y (ix2 r ⟨128 * g + k.val, by omega⟩)) := by
  rw [codes1_apply]
  simp only [grp_apply g hg]

/-- One piece of the block of codes, where it holds an index. -/
theorem piece_apply (g : ℕ) (hg : g < 4) (y : FVec Ideal S1024x512 .f32) (r : Fin 1024) (b : Fin 512) (x : S1024x128.Idx)
    (h0 : r.val = 0 + (x 0).val) (h1 : b.val = 128 * g + (x 1).val) :
    codes1 (grp g y) x = code (amax fun l : Fin 128 => y (ix2 r ⟨128 * (b.val / 128) + l.val, by omega⟩)) (y (ix2 r b)) := by
  obtain ⟨r', k, rfl⟩ : ∃ (r' : Fin 1024) (k : Fin 128), x = ix2 r' k := ⟨x 0, x 1, eq_ix2 x⟩
  rw [group_apply g hg]
  have e0 : r' = r := by apply Fin.ext; simp only [ix2_0] at h0; omega
  have h1 : b.val = 128 * g + k.val := by simpa only [ix2_1] using h1
  subst e0
  have eg : b.val / 128 = g := by omega
  have eb : b = ⟨128 * g + k.val, by omega⟩ := Fin.ext h1
  simp only [eg]
  rw [← eb]

theorem out1_6_apply (y : FVec Ideal S1024x512 .f32) (r : Fin 1024) (b : Fin 512) :
    out1_6 y (ix2 r b) = code (amax fun l : Fin 128 => y (ix2 r ⟨128 * (b.val / 128) + l.val, by omega⟩)) (y (ix2 r b)) := by
  unfold out1_6
  refine View.canon_eq_of_allAt _ _ _ (cover1_6 _ _ _ _ _) ?_
  refine View.allAt_cons_unit _ _ _ _ _ (fun x hx => piece_apply 3 (by omega) y r b x (hx 0) (hx 1)) ?_
  refine View.allAt_cons_unit _ _ _ _ _ (fun x hx => piece_apply 2 (by omega) y r b x (hx 0) (hx 1)) ?_
  refine View.allAt_cons_unit _ _ _ _ _ (fun x hx => piece_apply 1 (by omega) y r b x (hx 0) (hx 1)) ?_
  refine View.allAt_cons_unit _ _ _ _ _ (fun x hx => piece_apply 0 (by omega) y r b x (hx 0) (hx 1)) ?_
  exact View.allAt_nil _ _

/-- The codes of the gated product. -/
theorem arr1_6 (hi : Ins V c x w s) :
    (dat1 V c).arrAt 6 cfg1.N = (fun i => hc x w s (i 0) (i 1) : S12288x9216.Idx → EReal) := by
  refine (dat1 V c).arrAt_eq_of_covers 6 _ (by decide +kernel) fun t hf y => ?_
  blk_simp
  rw [after1_6]
  obtain ⟨r, b, rfl⟩ : ∃ (r : Fin 1024) (b : Fin 512), y = ix2 r b := ⟨y 0, y 1, eq_ix2 y⟩
  rw [out1_6_apply]
  have e0 : (win1_6.blk t).view.emb (ix2 r b) 0 = rowOf t r := by
    apply Fin.ext; blk_simp [index1_6, rowOf]
  have e1 : (win1_6.blk t).view.emb (ix2 r b) 1 = colOf t b := by
    apply Fin.ext; blk_simp [index1_6, colOf]
  rw [e0, e1]
  simp only [hblk1_apply hi]
  unfold hc ha
  refine congrArg (fun f => code (amax f) _) (funext fun l => congrArg (h x w s (rowOf t r)) (Fin.ext ?_))
  simp only [colOf]
  omega

/-- The block of scales at a point, entry by entry. -/
theorem full1_7_apply (hi : Ins V c x w s) (t : Fin cfg1.N) (r : Fin 1024) (l : Fin 72) :
    full1_7 V c t (ix2 r l) = hs x w s (rowOf t r) l := by
  unfold full1_7
  rw [cols_apply, scale1_apply]
  simp only [grp_apply _ (Nat.mod_lt _ (by decide : 0 < 4)), hblk1_apply hi]
  unfold hs ha
  refine congrArg (fun f => scl (amax f)) (funext fun k => ?_)
  have hr : rowOf (ptOf t l.val l.isLt) r = rowOf t r := by
    apply Fin.ext; simp only [rowOf, ptOf]; omega
  have hl : colOf (ptOf t l.val l.isLt) ⟨128 * (l.val % 4) + k.val, by omega⟩ = (⟨128 * l.val + k.val, by omega⟩ : Fin 9216) := by
    apply Fin.ext; simp only [colOf, ptOf]; omega
  exact congrArg₂ (h x w s) hr hl

/-- The scales of the gated product. -/
theorem arr1_7 (hi : Ins V c x w s) :
    (dat1 V c).arrAt 7 cfg1.N = (fun i => hs x w s (i 0) (i 1) : S12288x72.Idx → EReal) := by
  refine (dat1 V c).arrAt_eq_of_covers 7 _ (by decide +kernel) fun t hf y => ?_
  have e0 : ((win1_7.blk t).view.emb y 0).val = t.val / 18 * 1024 + (y 0).val :=
    (Window.rect_emb_val win1_7 t y 0 rfl).trans (by rw [index1_7]; rfl)
  have e1 : ((win1_7.blk t).view.emb y 1).val = 0 * 72 + (y 1).val :=
    (Window.rect_emb_val win1_7 t y 1 rfl).trans (by rw [index1_7]; rfl)
  refine (cast_eq rfl _).trans ?_
  rw [after1_7]
  refine ((congrArg (full1_7 V c t) (eq_ix2 y)).trans (full1_7_apply hi t (y 0) (y 1))).trans ?_
  refine congrArg₂ (hs x w s) (Fin.ext e0.symm) (Fin.ext ?_)
  rw [Nat.zero_mul, Nat.zero_add] at e1
  exact e1.symm

end Cert.KernelIdeal.Hand

end
-- ==== Proof.KernelIdealResult.lean ====
/-
  The kernel's four results over the reals, from its arguments.
-/
module

public import proofs.«01_k».proof.Proof.KernelIdealOut
public import Idealize.ShloMosaic.Lib.Claim

@[expose] public section

noncomputable section

namespace Cert.KernelIdeal.Hand

open Cert.KernelIdeal.Gen
open Idealize.ShloMosaic Idealize.ShloMosaic.TcCoe
open Idealize.SL Idealize.SL.Sem Cert.Ladder Cert.Spec
open Idealize.ShloMosaic.Pipeline (Dat Cfg Window)

variable (m : (ℓ : Loc nD τ sig) → Buf (Elt Ideal) ℓ) (ρ : Dev nD → PrngReg) (c : Dev nD)

/-- The arguments' entries: the activations as 12288 rows, the weights, the weights' scales. -/
def argX : Fin 12288 → Fin 4608 → EReal :=
  rows (shapeCast S12288x4608 (m ((c : Thread nD τ).loc main_arg0) : S6x2048x4608.Idx → EReal) shapeCasts_S6x2048x4608_S12288x4608)
def argW : Fin 4608 → Fin 18432 → EReal := rows (m ((c : Thread nD τ).loc main_arg1) : S4608x18432.Idx → EReal)
def argS : Fin 18432 → EReal := fun k =>
  shapeCast S1x18432 (m ((c : Thread nD τ).loc main_arg2) : S18432.Idx → EReal) shapeCasts_S18432_S1x18432 (ix2 0 k)

theorem V1_x : rows (V1 m ρ c main_v0 : S12288x4608.Idx → EReal) = argX m c := by
  have e : V1 m ρ c main_v0 = shapeCast S12288x4608 (m ((c : Thread nD τ).loc main_arg0) : S6x2048x4608.Idx → EReal) shapeCasts_S6x2048x4608_S12288x4608 := by
    unfold V1 W1
    entry_read
    rfl
  rw [e]; rfl

theorem V3_s (z : Fin 1) (b : Fin 18432) : (V3 m ρ c main_v2 : S1x18432.Idx → EReal) (ix2 z b) = argS m c b := by
  have e : V3 m ρ c main_v2 = shapeCast S1x18432 (W2 m ρ c (Proc.devRef .tc main_arg2) : S18432.Idx → EReal) shapeCasts_S18432_S1x18432 := by
    unfold V3 W3
    entry_read
    rfl
  rw [e, W2_args m ρ c main_arg2 (by decide)]
  obtain rfl : z = 0 := Subsingleton.elim _ _
  rfl

theorem V3_codes : V3 m ρ c main_v1_0 = (fun i => xc (argX m c) (i 0) (i 1) : S12288x4608.Idx → EReal) := by
  rw [← V1_x m ρ c, ← arr0_1]
  exact (W3_of m ρ c main_v1_0 (by decide)).trans (W2_arr m ρ c 1)

theorem V3_scale : V3 m ρ c main_v1_1 = (fun i => xs (argX m c) (i 0) : S12288x1.Idx → EReal) := by
  rw [← V1_x m ρ c, ← arr0_2]
  exact (W3_of m ρ c main_v1_1 (by decide)).trans (W2_arr m ρ c 2)

theorem V3_ins : Ins (V3 m ρ) c (argX m c) (argW m c) (argS m c) where
  codes := fun r k => by rw [V3_codes]; rfl
  scale := fun r z => by rw [V3_scale]; rfl
  w := fun k b => by
    have e : V3 m ρ c main_arg1 = m ((c : Thread nD τ).loc main_arg1) := W3_args m ρ c main_arg1 (by decide)
    rw [e]; rfl
  s := fun z b => V3_s m ρ c z b

theorem W4_codes : W4 m ρ c (Proc.devRef .tc main_v3_0) = (fun i => hc (argX m c) (argW m c) (argS m c) (i 0) (i 1) : S12288x9216.Idx → EReal) :=
  (W4_arr m ρ c 6).trans (arr1_6 (V3_ins m ρ c))
theorem W4_scale : W4 m ρ c (Proc.devRef .tc main_v3_1) = (fun i => hs (argX m c) (argW m c) (argS m c) (i 0) (i 1) : S12288x72.Idx → EReal) :=
  (W4_arr m ρ c 7).trans (arr1_7 (V3_ins m ρ c))
theorem W4_xcodes : W4 m ρ c (Proc.devRef .tc main_v1_0) = (fun i => xc (argX m c) (i 0) (i 1) : S12288x4608.Idx → EReal) :=
  (W4_of m ρ c main_v1_0 (by decide +kernel)).trans (V3_codes m ρ c)
theorem W4_xscale : W4 m ρ c (Proc.devRef .tc main_v1_1) = (fun i => xs (argX m c) (i 0) : S12288x1.Idx → EReal) :=
  (W4_of m ρ c main_v1_1 (by decide +kernel)).trans (V3_scale m ρ c)

/-- The kernel runs, and its four results are the codes and scales of the gated product and of the activations. -/
theorem run_results : θ_run defs (onTc (τ := τ) (main (F := Ideal))) ⟨m, fun _ => 0, ρ⟩ (fun r => ∀ c : Dev nD,
    r.2.mem ((c.tc : Thread nD τ).loc main_v3_0) = (fun i => hc (argX m c) (argW m c) (argS m c) (i 0) (i 1) : S12288x9216.Idx → EReal)
    ∧ r.2.mem ((c.tc : Thread nD τ).loc main_v3_1) = (fun i => hs (argX m c) (argW m c) (argS m c) (i 0) (i 1) : S12288x72.Idx → EReal)
    ∧ r.2.mem ((c.tc : Thread nD τ).loc main_v1_0) = (fun i => xc (argX m c) (i 0) (i 1) : S12288x4608.Idx → EReal)
    ∧ r.2.mem ((c.tc : Thread nD τ).loc main_v1_1) = (fun i => xs (argX m c) (i 0) : S12288x1.Idx → EReal)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨(h.1 c _ (mem_uc main_v3_0 (by decide))).trans (W4_codes m ρ c),
     (h.1 c _ (mem_uc main_v3_1 (by decide))).trans (W4_scale m ρ c),
     (h.1 c _ (mem_uc main_v1_0 (by decide))).trans (W4_xcodes m ρ c),
     (h.1 c _ (mem_uc main_v1_1 (by decide))).trans (W4_xscale m ρ c),
     (h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c)⟩) (run m ρ)

end Cert.KernelIdeal.Hand

end
-- ==== Proof.ReferencePoint.lean ====
/-
  The reference's payloads over the reals, entry by entry.
-/
module

public import proofs.«01_k».proof.Proof.Spec
public import proofs.«01_k».proof.Proof.Gen.ReferenceIdeal.Skeleton

@[expose] public section

noncomputable section

namespace Cert.ReferenceIdeal.Hand

open Idealize.ShloMosaic Cert.ReferenceIdeal.Gen Cert.Ladder Cert.Spec
open scoped BigOperators

/-! ## Operations at an index, for any vector -/

theorem exp2_apply {S : Shape} (v : FVec Ideal S .f32) (i : S.Idx) : exp2 v i = Ideal.exp2 (v i) := rfl

theorem exp2_neg_apply {S : Shape} (v : FVec Ideal S .f32) (i : S.Idx) :
    (exp2 (subf (broadcast S (Scalar.ofBits .f32 0x00000000#32)) v) : FVec Ideal S .f32) i = Ideal.exp2 (Ideal.ofBits .f32 0x00000000#32 - v i) := rfl

theorem rexp_apply {S : Shape} (t : FVec Ideal S .f32) (i : S.Idx) :
    (select (andi (cmpf .oge t (broadcast S (Scalar.ofBits .f32 0x00800000#32))) (cmpf .olt t (broadcast S (Scalar.ofBits .f32 0x7E800000#32))))
      (addf (floor (divf (log t) (log (broadcast S (Scalar.ofBits .f32 0x40000000#32))))) (broadcast S (Scalar.ofBits .f32 0x3F800000#32)))
      (broadcast S (Scalar.ofBits .f32 0x00000000#32)) : FVec Ideal S .f32) i = rexp (t i) := rfl

theorem clip_apply {S : Shape} (a b : FVec Ideal S .f32) (i : S.Idx) (hb) :
    (truncf .fp8e4m3 (minimumf (broadcast S (Scalar.ofBits .f32 0x43E00000#32)) (maximumf (broadcast S (Scalar.ofBits .f32 0xC3E00000#32)) (mulf a b))) hb
      : FVec Ideal S .fp8e4m3) i = min (Ideal.ofBits .f32 0x43E00000#32) (max (Ideal.ofBits .f32 0xC3E00000#32) (a i * b i)) := rfl

theorem absf_apply {S : Shape} (v : FVec Ideal S .f32) (i : S.Idx) : (absf v) i = max (v i) (-(v i)) := rfl

theorem over448_apply {S : Shape} (a : FVec Ideal S .f32) (i : S.Idx) :
    (mulf a (broadcast S (Scalar.ofBits .f32 0x3B124925#32)) : FVec Ideal S .f32) i = a i * Ideal.ofBits .f32 0x3B124925#32 := rfl

/-! ## The input's quantisation -/

theorem pay2_apply (x : Vec Ideal S12288x4608 .bf16) (r : Fin 12288) (k : Fin 4608) : k0_pay2 x (ix2 r k) = x (ix2 r k) := by
  pointwise [k0_pay2]

/-- The largest magnitude of each row over 448. -/
def amaxX (v2 : FVec Ideal S12288x4608 .f32) : FVec Ideal S12288x1 .f32 :=
  mulf (shapeCast S12288x1 (multiReduction .maximumf [1] S12288 (absf v2) 0xFF800000#32 reduces_S12288x4608_S12288 (.inl rfl) rfl) shapeCasts_S12288_S12288x1)
    (broadcast S12288x1 (Scalar.ofBits .f32 0x3B124925#32))

theorem keepX_apply (v : FVec Ideal S12288 .f32) (r : Fin 12288) (z : Fin 1) :
    shapeCast S12288x1 v shapeCasts_S12288_S12288x1 (ix2 r z) = v (ix1 r) := by
  pointwise

theorem amaxX_apply (v2 : FVec Ideal S12288x4608 .f32) (r : Fin 12288) (z : Fin 1) : amaxX v2 (ix2 r z) = amax fun k => v2 (ix2 r k) := by
  unfold amaxX
  rw [over448_apply, keepX_apply]
  unfold amax
  refine congrArg (fun a => a * Ideal.ofBits .f32 0x3B124925#32) ?_
  refine max_axis (a := (1 : Fin 2)) (absf v2) reduces_S12288x4608_S12288 _ _ (ix1 r) (fun k : Fin 4608 => max (v2 (ix2 r k)) (-(v2 (ix2 r k)))) fun k => ?_
  have e : reduces_S12288x4608_S12288.lift (ix1 r) k = ix2 r k := by
    funext a; match a with | ⟨0, _⟩ => rfl | ⟨1, _⟩ => rfl
  exact (congrArg (absf v2) e).trans (absf_apply v2 _)

theorem pay3_apply (x : Vec Ideal S12288x4608 .bf16) (r : Fin 12288) (z : Fin 1) :
    k0_pay3 x (ix2 r z) = rexp (amax fun k => x (ix2 r k)) := by
  have e := rexp_apply (amaxX (k0_pay2 x)) (ix2 r z)
  rw [amaxX_apply] at e
  simp only [pay2_apply] at e
  rw [← e]
  unfold k0_pay3 amaxX
  rfl

theorem colX_apply (v : FVec Ideal S12288x1 .f32) (r : Fin 12288) (k : Fin 4608) :
    broadcastTo S12288x4608 v broadcasts_S12288x1_S12288x4608 (ix2 r k) = v (ix2 r 0) := by
  pointwise

theorem pay4_apply (x : Vec Ideal S12288x4608 .bf16) (r : Fin 12288) (k : Fin 4608) :
    k0_pay4 x (ix2 r k) = xc (fun r k => x (ix2 r k)) r k := by
  unfold k0_pay4
  rw [clip_apply, colX_apply, exp2_neg_apply, pay2_apply, pay3_apply, rinv_eq]
  unfold xc code xa
  rfl

theorem pay5_apply (x : Vec Ideal S12288x4608 .bf16) (r : Fin 12288) (z : Fin 1) :
    k0_pay5 x (ix2 r z) = xs (fun r k => x (ix2 r k)) r := by
  unfold k0_pay5
  rw [exp2_apply, pay3_apply, rscale_eq]
  unfold xs xa
  rfl

/-! ## The product and the activation -/

theorem rowY_apply (v : FVec Ideal S12288x1 .f32) (r : Fin 12288) (c : Fin 18432) :
    broadcastTo S12288x18432 v broadcasts_S12288x1_S12288x18432 (ix2 r c) = v (ix2 r 0) := by
  pointwise

theorem pay6_apply (x : Vec Ideal S12288x4608 .bf16) (w : Vec Ideal S4608x18432 .fp8e4m3) (s : Vec Ideal S1x18432 .f32) (r : Fin 12288) (c : Fin 18432) :
    k0_pay6 x w s (ix2 r c) = y (fun r k => x (ix2 r k)) (fun k c => w (ix2 k c)) (fun c => s (ix2 0 c)) r c := by
  unfold k0_pay6 y
  simp only [← pay4_apply, ← pay5_apply x r 0]
  generalize k0_pay4 x = q
  generalize k0_pay5 x = u
  pointwise

theorem pay7_apply (x : Vec Ideal S12288x4608 .bf16) (w : Vec Ideal S4608x18432 .fp8e4m3) (s : Vec Ideal S1x18432 .f32) (r : Fin 12288) (j : Fin 9216) :
    k0_pay7 x w s (ix2 r j) = k0_pay6 x w s (ix2 r ⟨j.val, by omega⟩) := by
  unfold k0_pay7
  generalize k0_pay6 x w s = q
  pointwise

theorem pay8_apply (x : Vec Ideal S12288x4608 .bf16) (w : Vec Ideal S4608x18432 .fp8e4m3) (s : Vec Ideal S1x18432 .f32) (r : Fin 12288) (j : Fin 9216) :
    k0_pay8 x w s (ix2 r j) = k0_pay7 x w s (ix2 r j) * k0_pay7 x w s (ix2 r j) := rfl

/-- The activation, before its columns are put in groups. -/
def actV (v40 : FVec Ideal S12288x18432 .f32) (v41 v42 : FVec Ideal S12288x9216 .f32) : FVec Ideal S12288x9216 .f32 :=
  mulf (mulf v41 (mulf (broadcast S12288x9216 (Scalar.ofBits .f32 0x3F000000#32)) (addf (broadcast S12288x9216 (Scalar.ofBits .f32 0x3F800000#32))
    (tanh (mulf (broadcast S12288x9216 (Scalar.ofBits .f32 0x3F4C422A#32)) (addf v41 (mulf (broadcast S12288x9216 (Scalar.ofBits .f32 0x3D372713#32)) (mulf v41 v42))))))))
    (extractStridedSlice S12288x9216 ![0, 9216] v40 slices_S12288x18432_o0_9216_S12288x9216)

theorem pay9_eq (v40 : FVec Ideal S12288x18432 .f32) (v41 v42 : FVec Ideal S12288x9216 .f32) :
    k0_pay9 v40 v41 v42 = shapeCast S12288x72x128 (actV v40 v41 v42) shapeCasts_S12288x9216_S12288x72x128 := rfl

theorem upV_apply (v : FVec Ideal S12288x18432 .f32) (r : Fin 12288) (j : Fin 9216) :
    extractStridedSlice S12288x9216 ![0, 9216] v slices_S12288x18432_o0_9216_S12288x9216 (ix2 r j) = v (ix2 r ⟨9216 + j.val, by omega⟩) := by
  pointwise

theorem group_apply (v : FVec Ideal S12288x9216 .f32) (r : Fin 12288) (g : Fin 72) (l : Fin 128) :
    shapeCast S12288x72x128 v shapeCasts_S12288x9216_S12288x72x128 (ix3 r g l) = v (ix2 r ⟨128 * g.val + l.val, by omega⟩) := by
  pointwise
  try (congr 2; apply Fin.ext; simp; try omega)

section
variable (x : Vec Ideal S12288x4608 .bf16) (w : Vec Ideal S4608x18432 .fp8e4m3) (s : Vec Ideal S1x18432 .f32)

theorem actV_apply (r : Fin 12288) (j : Fin 9216) :
    actV (k0_pay6 x w s) (k0_pay7 x w s) (k0_pay8 x w s) (ix2 r j)
      = h (fun r k => x (ix2 r k)) (fun k c => w (ix2 k c)) (fun c => s (ix2 0 c)) r j := by
  have e : actV (k0_pay6 x w s) (k0_pay7 x w s) (k0_pay8 x w s) (ix2 r j)
      = k0_pay7 x w s (ix2 r j) * (Ideal.ofBits .f32 0x3F000000#32 * (Ideal.ofBits .f32 0x3F800000#32
          + Ideal.tanh (Ideal.ofBits .f32 0x3F4C422A#32 * (k0_pay7 x w s (ix2 r j) + Ideal.ofBits .f32 0x3D372713#32 *
            (k0_pay7 x w s (ix2 r j) * k0_pay8 x w s (ix2 r j))))))
        * extractStridedSlice S12288x9216 ![0, 9216] (k0_pay6 x w s) slices_S12288x18432_o0_9216_S12288x9216 (ix2 r j) := rfl
  rw [e, upV_apply, pay8_apply, pay7_apply, pay6_apply, pay6_apply]
  unfold h act
  simp only [mul_assoc]

theorem pay9_apply (r : Fin 12288) (g : Fin 72) (l : Fin 128) :
    k0_pay9 (k0_pay6 x w s) (k0_pay7 x w s) (k0_pay8 x w s) (ix3 r g l)
      = h (fun r k => x (ix2 r k)) (fun k c => w (ix2 k c)) (fun c => s (ix2 0 c)) r ⟨128 * g.val + l.val, by omega⟩ := by
  rw [pay9_eq, group_apply, actV_apply]

/-! ## The activation's quantisation -/

/-- The largest magnitude of each group over 448. -/
def amaxH (v : FVec Ideal S12288x72x128 .f32) : FVec Ideal S12288x72x1 .f32 :=
  mulf (shapeCast S12288x72x1 (multiReduction .maximumf [2] S12288x72 (absf v) 0xFF800000#32 reduces_S12288x72x128_S12288x72 (.inl rfl) rfl) shapeCasts_S12288x72_S12288x72x1)
    (broadcast S12288x72x1 (Scalar.ofBits .f32 0x3B124925#32))

theorem keepH_apply (v : FVec Ideal S12288x72 .f32) (r : Fin 12288) (g : Fin 72) (z : Fin 1) :
    shapeCast S12288x72x1 v shapeCasts_S12288x72_S12288x72x1 (ix3 r g z) = v (ix2 r g) := by
  pointwise

theorem amaxH_apply (v : FVec Ideal S12288x72x128 .f32) (r : Fin 12288) (g : Fin 72) (z : Fin 1) :
    amaxH v (ix3 r g z) = amax fun l => v (ix3 r g l) := by
  unfold amaxH
  rw [over448_apply, keepH_apply]
  unfold amax
  refine congrArg (fun a => a * Ideal.ofBits .f32 0x3B124925#32) ?_
  refine max_axis (a := (2 : Fin 3)) (absf v) reduces_S12288x72x128_S12288x72 _ _ (ix2 r g) (fun k : Fin 128 => max (v (ix3 r g k)) (-(v (ix3 r g k)))) fun k => ?_
  have e : reduces_S12288x72x128_S12288x72.lift (ix2 r g) k = ix3 r g k := by
    funext a; match a with | ⟨0, _⟩ => rfl | ⟨1, _⟩ => rfl | ⟨2, _⟩ => rfl
  exact (congrArg (absf v) e).trans (absf_apply v _)

theorem pay10_apply (r : Fin 12288) (g : Fin 72) (z : Fin 1) :
    k0_pay10 (k0_pay6 x w s) (k0_pay7 x w s) (k0_pay8 x w s) (ix3 r g z)
      = rexp (ha (fun r k => x (ix2 r k)) (fun k c => w (ix2 k c)) (fun c => s (ix2 0 c)) r g) := by
  have e := rexp_apply (amaxH (k0_pay9 (k0_pay6 x w s) (k0_pay7 x w s) (k0_pay8 x w s))) (ix3 r g z)
  rw [amaxH_apply] at e
  simp only [pay9_apply] at e
  unfold ha
  rw [← e]
  unfold k0_pay10 amaxH
  rfl

theorem ungroup1_apply (v : FVec Ideal S12288x72x1 .f32) (r : Fin 12288) (g : Fin 72) :
    shapeCast S12288x72 v shapeCasts_S12288x72x1_S12288x72 (ix2 r g) = v (ix3 r g 0) := by
  pointwise

/-- The scales of the groups. -/
theorem scale_apply (r : Fin 12288) (g : Fin 72) :
    k0_pay1 (k0_pay11 (k0_pay6 x w s) (k0_pay7 x w s) (k0_pay8 x w s)) (ix2 r g)
      = hs (fun r k => x (ix2 r k)) (fun k c => w (ix2 k c)) (fun c => s (ix2 0 c)) r g := by
  unfold k0_pay1 k0_pay11
  rw [ungroup1_apply, exp2_apply, pay10_apply, rscale_eq]
  unfold hs
  rfl

theorem ungroup_apply (v : FVec Ideal S12288x72x128 .fp8e4m3) (r : Fin 12288) (j : Fin 9216) :
    shapeCast S12288x9216 v shapeCasts_S12288x72x128_S12288x9216 (ix2 r j) = v (ix3 r ⟨j.val / 128, by omega⟩ ⟨j.val % 128, by omega⟩) := by
  pointwise
  try (congr 2; apply Fin.ext; simp; try omega)

theorem lanes_apply (v : FVec Ideal S12288x72x1 .f32) (r : Fin 12288) (g : Fin 72) (l : Fin 128) :
    broadcastTo S12288x72x128 v broadcasts_S12288x72x1_S12288x72x128 (ix3 r g l) = v (ix3 r g 0) := by
  pointwise

/-- The codes of the activation. -/
theorem codes_apply (r : Fin 12288) (j : Fin 9216) :
    k0_pay12 (k0_pay6 x w s) (k0_pay7 x w s) (k0_pay8 x w s) (ix2 r j)
      = hc (fun r k => x (ix2 r k)) (fun k c => w (ix2 k c)) (fun c => s (ix2 0 c)) r j := by
  unfold k0_pay12
  rw [ungroup_apply]
  generalize hg : (⟨j.val / 128, by omega⟩ : Fin 72) = g
  generalize hl : (⟨j.val % 128, by omega⟩ : Fin 128) = l
  rw [clip_apply, lanes_apply, pay9_apply, exp2_neg_apply, pay10_apply, rinv_eq]
  have ej : (⟨128 * g.val + l.val, by omega⟩ : Fin 9216) = j := by
    apply Fin.ext; subst hg hl; show 128 * (j.val / 128) + j.val % 128 = j.val; omega
  rw [ej]
  subst hg
  unfold hc code
  rfl

end

end Cert.ReferenceIdeal.Hand

end
-- ==== Proof.ReferenceResult.lean ====
/-
  The reference's four results over the reals, from its arguments.
-/
module

public import proofs.«01_k».proof.Proof.ReferencePoint
public import proofs.«01_k».proof.Proof.Gen.ReferenceIdeal.Frame
public import Idealize.ShloMosaic.Lib.Claim
public import Idealize.ShloMosaic.Lib.Pipeline.ValueKit

@[expose] public section

noncomputable section

namespace Cert.ReferenceIdeal.Hand

open Cert.ReferenceIdeal.Gen
open Idealize.ShloMosaic Idealize.ShloMosaic.TcCoe
open Idealize.SL Idealize.SL.Sem Cert.Ladder Cert.Spec
open Idealize.ShloMosaic.Pipeline (Dat Cfg Window)

variable (m : (ℓ : Loc nD τ sig) → Buf (Elt Ideal) ℓ) (ρ : Dev nD → PrngReg) (c : Dev nD)

/-- The arguments' entries: the activations as 12288 rows, the weights, the weights' scales. -/
def argX : Fin 12288 → Fin 4608 → EReal := fun r k =>
  shapeCast S12288x4608 (m ((c : Thread nD τ).loc main_arg0) : S6x2048x4608.Idx → EReal) shapeCasts_S6x2048x4608_S12288x4608 (ix2 r k)
def argW : Fin 4608 → Fin 18432 → EReal := fun k b => (m ((c : Thread nD τ).loc main_arg1) : S4608x18432.Idx → EReal) (ix2 k b)
def argS : Fin 18432 → EReal := fun k =>
  shapeCast S1x18432 (m ((c : Thread nD τ).loc main_arg2) : S18432.Idx → EReal) shapeCasts_S18432_S1x18432 (ix2 0 k)

theorem V_x : V m c main_v0 = shapeCast S12288x4608 (m ((c : Thread nD τ).loc main_arg0) : S6x2048x4608.Idx → EReal) shapeCasts_S6x2048x4608_S12288x4608 := by
  entry_read
  rfl
theorem V_s : V m c main_v1 = shapeCast S1x18432 (m ((c : Thread nD τ).loc main_arg2) : S18432.Idx → EReal) shapeCasts_S18432_S1x18432 := by
  entry_read
  rfl

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)

theorem iblk_x (t : Fin cfg0.N) (r : Fin 12288) (k : Fin 4608) : iblk m c 0 t (ix2 r k) = argX m c r k := by
  unfold argX
  rw [← V_x]
  blk_simp [iblk]
  refine congrArg (V m c main_v0) ?_
  blk_ext [index0_0]
theorem iblk_w (t : Fin cfg0.N) (k : Fin 4608) (b : Fin 18432) : iblk m c 1 t (ix2 k b) = argW m c k b := by
  unfold argW
  rw [← V_main_arg1 m c]
  blk_simp [iblk]
  refine congrArg (V m c main_arg1) ?_
  blk_ext [index0_1]
theorem iblk_s (t : Fin cfg0.N) (b : Fin 18432) : iblk m c 2 t (ix2 (0 : Fin 1) b) = argS m c b := by
  unfold argS
  rw [← V_s]
  blk_simp [iblk]
  refine congrArg (V m c main_v1) ?_
  blk_ext [index0_2]

theorem out0_3_apply (x : Vec Ideal S12288x4608 .bf16) (w : Vec Ideal S4608x18432 .fp8e4m3) (s : Vec Ideal S1x18432 .f32) (r : Fin 12288) (j : Fin 9216) :
    out0_3 x w s (ix2 r j) = hc (fun r k => x (ix2 r k)) (fun k c => w (ix2 k c)) (fun c => s (ix2 0 c)) r j := by
  unfold out0_3
  rw [View.canon_cons_unit_lit _ _ _ (by decide)]
  unfold k0_pay13 k0_pay14 k0_pay15
  rw [View.ld_unit_lit _ x (by decide), View.ld_unit_lit _ w (by decide), View.ld_unit_lit _ s (by decide)]
  exact codes_apply x w s r j
theorem out0_4_apply (x : Vec Ideal S12288x4608 .bf16) (w : Vec Ideal S4608x18432 .fp8e4m3) (s : Vec Ideal S1x18432 .f32) (r : Fin 12288) (g : Fin 72) :
    out0_4 x w s (ix2 r g) = hs (fun r k => x (ix2 r k)) (fun k c => w (ix2 k c)) (fun c => s (ix2 0 c)) r g := by
  unfold out0_4
  rw [View.canon_cons_unit_lit _ _ _ (by decide)]
  unfold k0_pay13 k0_pay14 k0_pay15
  rw [View.ld_unit_lit _ x (by decide), View.ld_unit_lit _ w (by decide), View.ld_unit_lit _ s (by decide)]
  exact scale_apply x w s r g
theorem out0_5_apply (x : Vec Ideal S12288x4608 .bf16) (w : Vec Ideal S4608x18432 .fp8e4m3) (s : Vec Ideal S1x18432 .f32) (r : Fin 12288) (k : Fin 4608) :
    out0_5 x w s (ix2 r k) = xc (fun r k => x (ix2 r k)) r k := by
  unfold out0_5
  rw [View.canon_cons_unit_lit _ _ _ (by decide), View.ld_unit_lit _ x (by decide)]
  exact pay4_apply x r k
theorem out0_6_apply (x : Vec Ideal S12288x4608 .bf16) (w : Vec Ideal S4608x18432 .fp8e4m3) (s : Vec Ideal S1x18432 .f32) (r : Fin 12288) (z : Fin 1) :
    out0_6 x w s (ix2 r z) = xs (fun r k => x (ix2 r k)) r := by
  unfold out0_6
  rw [View.canon_cons_unit_lit _ _ _ (by decide), View.ld_unit_lit _ x (by decide)]
  exact pay5_apply x r z

theorem arr_3 : (dats m 0 c).arrAt 3 cfg0.N = (fun i => hc (argX m c) (argW m c) (argS m c) (i 0) (i 1) : S12288x9216.Idx → EReal) := by
  refine (dats m 0 c).arrAt_eq_of_covers 3 _ (by decide +kernel) fun t hf y => ?_
  have e0 : ((win0_3.blk t).view.emb y 0).val = 0 * 12288 + (y 0).val :=
    (Window.rect_emb_val win0_3 t y 0 rfl).trans (by rw [index0_3]; rfl)
  have e1 : ((win0_3.blk t).view.emb y 1).val = 0 * 9216 + (y 1).val :=
    (Window.rect_emb_val win0_3 t y 1 rfl).trans (by rw [index0_3]; rfl)
  rw [Nat.zero_mul, Nat.zero_add] at e0 e1
  refine (cast_eq rfl _).trans ?_
  rw [after0_3]
  refine ((congrArg (out0_3 (iblk m c 0 t) (iblk m c 1 t) (iblk m c 2 t)) (eq_ix2 y)).trans (out0_3_apply _ _ _ (y 0) (y 1))).trans ?_
  simp only [iblk_x, iblk_w, iblk_s]
  exact congrArg₂ (hc (argX m c) (argW m c) (argS m c)) (Fin.ext e0.symm) (Fin.ext e1.symm)
theorem arr_4 : (dats m 0 c).arrAt 4 cfg0.N = (fun i => hs (argX m c) (argW m c) (argS m c) (i 0) (i 1) : S12288x72.Idx → EReal) := by
  refine (dats m 0 c).arrAt_eq_of_covers 4 _ (by decide +kernel) fun t hf y => ?_
  have e0 : ((win0_4.blk t).view.emb y 0).val = 0 * 12288 + (y 0).val :=
    (Window.rect_emb_val win0_4 t y 0 rfl).trans (by rw [index0_4]; rfl)
  have e1 : ((win0_4.blk t).view.emb y 1).val = 0 * 72 + (y 1).val :=
    (Window.rect_emb_val win0_4 t y 1 rfl).trans (by rw [index0_4]; rfl)
  rw [Nat.zero_mul, Nat.zero_add] at e0 e1
  refine (cast_eq rfl _).trans ?_
  rw [after0_4]
  refine ((congrArg (out0_4 (iblk m c 0 t) (iblk m c 1 t) (iblk m c 2 t)) (eq_ix2 y)).trans (out0_4_apply _ _ _ (y 0) (y 1))).trans ?_
  simp only [iblk_x, iblk_w, iblk_s]
  exact congrArg₂ (hs (argX m c) (argW m c) (argS m c)) (Fin.ext e0.symm) (Fin.ext e1.symm)
theorem arr_5 : (dats m 0 c).arrAt 5 cfg0.N = (fun i => xc (argX m c) (i 0) (i 1) : S12288x4608.Idx → EReal) := by
  refine (dats m 0 c).arrAt_eq_of_covers 5 _ (by decide +kernel) fun t hf y => ?_
  have e0 : ((win0_5.blk t).view.emb y 0).val = 0 * 12288 + (y 0).val :=
    (Window.rect_emb_val win0_5 t y 0 rfl).trans (by rw [index0_5]; rfl)
  have e1 : ((win0_5.blk t).view.emb y 1).val = 0 * 4608 + (y 1).val :=
    (Window.rect_emb_val win0_5 t y 1 rfl).trans (by rw [index0_5]; rfl)
  rw [Nat.zero_mul, Nat.zero_add] at e0 e1
  refine (cast_eq rfl _).trans ?_
  rw [after0_5]
  refine ((congrArg (out0_5 (iblk m c 0 t) (iblk m c 1 t) (iblk m c 2 t)) (eq_ix2 y)).trans (out0_5_apply _ _ _ (y 0) (y 1))).trans ?_
  simp only [iblk_x]
  exact congrArg₂ (xc (argX m c)) (Fin.ext e0.symm) (Fin.ext e1.symm)
theorem arr_6 : (dats m 0 c).arrAt 6 cfg0.N = (fun i => xs (argX m c) (i 0) : S12288x1.Idx → EReal) := by
  refine (dats m 0 c).arrAt_eq_of_covers 6 _ (by decide +kernel) fun t hf y => ?_
  have e0 : ((win0_6.blk t).view.emb y 0).val = 0 * 12288 + (y 0).val :=
    (Window.rect_emb_val win0_6 t y 0 rfl).trans (by rw [index0_6]; rfl)
  rw [Nat.zero_mul, Nat.zero_add] at e0
  refine (cast_eq rfl _).trans ?_
  rw [after0_6]
  refine ((congrArg (out0_6 (iblk m c 0 t) (iblk m c 1 t) (iblk m c 2 t)) (eq_ix2 y)).trans (out0_6_apply _ _ _ (y 0) (y 1))).trans ?_
  simp only [iblk_x]
  exact congrArg (xs (argX m c)) (Fin.ext e0.symm)

/-- The reference runs, and its four results are the codes and scales of the gated product and of the activations. -/
theorem run_results : θ_run defs (onTc (τ := τ) (main (F := Ideal))) ⟨m, fun _ => 0, ρ⟩ (fun r => ∀ c : Dev nD,
    r.2.mem ((c.tc : Thread nD τ).loc main_v2_0) = (fun i => hc (argX m c) (argW m c) (argS m c) (i 0) (i 1) : S12288x9216.Idx → EReal)
    ∧ r.2.mem ((c.tc : Thread nD τ).loc main_v2_1) = (fun i => hs (argX m c) (argW m c) (argS m c) (i 0) (i 1) : S12288x72.Idx → EReal)
    ∧ r.2.mem ((c.tc : Thread nD τ).loc main_v2_2) = (fun i => xc (argX m c) (i 0) (i 1) : S12288x4608.Idx → EReal)
    ∧ r.2.mem ((c.tc : Thread nD τ).loc main_v2_3) = (fun i => xs (argX m c) (i 0) : S12288x1.Idx → EReal)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨((h c).1 3).trans (arr_3 m c), ((h c).1 4).trans (arr_4 m c), ((h c).1 5).trans (arr_5 m c), ((h c).1 6).trans (arr_6 m c),
     ((h c).2 main_arg0 (Pipeline.mem_restRefs_of main_arg0 (by decide) (by decide))).trans (V_main_arg0 m c),
     ((h c).1 1).trans (((dats m 0 c).arrAt_in 1 rfl _).trans ((A_eq m c 1).trans (V_main_arg1 m c))),
     ((h c).2 main_arg2 (Pipeline.mem_restRefs_of main_arg2 (by decide) (by decide))).trans (V_main_arg2 m c)⟩) (run_main m ρ)

end Cert.ReferenceIdeal.Hand

end
-- ==== Proof.Equal.lean ====
/-
  The kernel and the reference end with equal results over the reals.
-/
module

public import proofs.«01_k».proof.Defs
public import proofs.«01_k».proof.Proof.Gen.Kernel
public import proofs.«01_k».proof.Proof.KernelIdealResult
public import proofs.«01_k».proof.Proof.ReferenceResult

@[expose] public section

noncomputable section

namespace Cert.Proof

open Idealize.ShloMosaic Idealize.ShloMosaic.TcCoe Idealize.SL.Sem

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

theorem argX_eq (e : m' ((c.tc : Thread ReferenceIdeal.nD ReferenceIdeal.τ).loc ReferenceIdeal.main_arg0)
      = m ((c.tc : Thread KernelIdeal.nD KernelIdeal.τ).loc KernelIdeal.main_arg0)) :
    ReferenceIdeal.Hand.argX m' c = KernelIdeal.Hand.argX m c := by
  unfold ReferenceIdeal.Hand.argX; rw [e]; rfl
theorem argW_eq (e : m' ((c.tc : Thread ReferenceIdeal.nD ReferenceIdeal.τ).loc ReferenceIdeal.main_arg1)
      = m ((c.tc : Thread KernelIdeal.nD KernelIdeal.τ).loc KernelIdeal.main_arg1)) :
    ReferenceIdeal.Hand.argW m' c = KernelIdeal.Hand.argW m c := by
  unfold ReferenceIdeal.Hand.argW; rw [e]; rfl
theorem argS_eq (e : m' ((c.tc : Thread ReferenceIdeal.nD ReferenceIdeal.τ).loc ReferenceIdeal.main_arg2)
      = m ((c.tc : Thread KernelIdeal.nD KernelIdeal.τ).loc KernelIdeal.main_arg2)) :
    ReferenceIdeal.Hand.argS m' c = KernelIdeal.Hand.argS m c := by
  unfold ReferenceIdeal.Hand.argS; rw [e]; rfl
end

/-- The results are equal: each side's are the codes and scales of the gated product and of the activations. -/
theorem equal : Cert.algebraic_KernelIdeal_ReferenceIdeal (hKernelIdeal := Cert.KernelIdeal.Gen.facts) (hReferenceIdeal := Cert.ReferenceIdeal.Gen.facts) := by
  intro m g m' g' _ hag
  refine ⟨_, _, _, _, KernelIdeal.Hand.run_results m g, ?_⟩
  refine (θ_run _ _ _).mono (fun r h c => ?_) (ReferenceIdeal.Hand.run_results m' g')
  have hc := h c
  rw [argX_eq m m' c (hag c).1, argW_eq m m' c (hag c).2.1, argS_eq m m' c (hag c).2.2] at hc
  exact hc

end Cert.Proof

end
-- ==== Proof.lean ====
/-
  The proof of `Cert.Claim`: the frames of the kernel (at machine floats and at the reals) and of the reference, and the equality of their
  results over the reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.KernelIdealRun
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial, Cert.Proof.equal⟩

end Cert.Proof

end
